-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![2048, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S4x3x256x512 : Shape := ⟨4, ![4, 3, 256, 512]⟩
abbrev S4x3x512x256 : Shape := ⟨4, ![4, 3, 512, 256]⟩
abbrev S18 : Shape := ⟨1, ![18]⟩
abbrev S7 : Shape := ⟨1, ![7]⟩
abbrev S_ : Shape := ⟨0, ![]⟩
abbrev S1 : Shape := ⟨1, ![1]⟩
abbrev S1x1x256x512 : Shape := ⟨4, ![1, 1, 256, 512]⟩
abbrev S1x1x512x256 : Shape := ⟨4, ![1, 1, 512, 256]⟩
abbrev S512x512 : Shape := ⟨2, ![512, 512]⟩

abbrev nBuf : Space → Nat
  | .hbm => 8
  | .vmem => 4
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S512x256, .bf16⟩
  | .hbm, ⟨3, _⟩ => ⟨S256x512, .bf16⟩
  | .hbm, ⟨4, _⟩ => ⟨S512x256, .bf16⟩
  | .hbm, ⟨5, _⟩ => ⟨S256x512, .bf16⟩
  | .hbm, ⟨6, _⟩ => ⟨S512x256, .bf16⟩
  | .hbm, ⟨7, _⟩ => ⟨S512x256, .f32⟩
  | .local _ .vmem, ⟨0, _⟩ => ⟨S4x3x256x512, .bf16⟩
  | .local _ .vmem, ⟨1, _⟩ => ⟨S4x3x512x256, .bf16⟩
  | .local _ .vmem, ⟨2, _⟩ => ⟨S512x256, .bf16⟩
  | .local _ .vmem, ⟨3, _⟩ => ⟨S512x256, .f32⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_off1 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_25 : BitVec 32 := 0#32
  let c0_i32_27 : BitVec 32 := 0#32
  let c0_i32_28 : BitVec 32 := 0#32
  ![v2.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_29 : BitVec 32 := 0#32
  let c0_i32_31 : BitVec 32 := 0#32
  let c0_i32_32 : BitVec 32 := 0#32
  ![v2.toNat, 0, 0, 0]
def k0_off3 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let c0_i32_35 : BitVec 32 := 0#32
  let c0_i32_36 : BitVec 32 := 0#32
  ![v2.toNat, 1, 0, 0]
def k0_off4 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_37 : BitVec 32 := 1#32
  let c0_i32_38 : BitVec 32 := 0#32
  let c0_i32_39 : BitVec 32 := 0#32
  ![v2.toNat, 1, 0, 0]
def k0_off5 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_40 : BitVec 32 := 2#32
  let c0_i32_42 : BitVec 32 := 0#32
  let c0_i32_43 : BitVec 32 := 0#32
  ![v2.toNat, 2, 0, 0]
def k0_off6 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_44 : BitVec 32 := 2#32
  let c0_i32_45 : BitVec 32 := 0#32
  let c0_i32_46 : BitVec 32 := 0#32
  ![v2.toNat, 2, 0, 0]
def k0_dev3 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_60 : BitVec 32 := 1#32
  let v75 : BitVec 32 := Scalar.muli v24 c1_i32_60
  let v76 : BitVec 32 := Scalar.addi c0_i32_61 v75
  v76.toNat
def k0_dev4 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_70 : BitVec 32 := 1#32
  let v85 : BitVec 32 := Scalar.muli v13 c1_i32_70
  let v86 : BitVec 32 := Scalar.addi c0_i32_71 v85
  v86.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_80 : BitVec 32 := 1#32
  let v95 : BitVec 32 := Scalar.muli v24 c1_i32_80
  let v96 : BitVec 32 := Scalar.addi c0_i32_81 v95
  v96.toNat
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_90 : BitVec 32 := 1#32
  let v105 : BitVec 32 := Scalar.muli v13 c1_i32_90
  let v106 : BitVec 32 := Scalar.addi c0_i32_91 v105
  v106.toNat
def k0_off7 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_99 : BitVec 32 := 0#32
  let c0_i32_104 : BitVec 32 := 0#32
  let c0_i32_105 : BitVec 32 := 0#32
  ![v13.toNat, 0, 0, 0]
def k0_dev7 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_112 : BitVec 32 := 1#32
  let v126 : BitVec 32 := Scalar.muli v24 c1_i32_112
  let v127 : BitVec 32 := Scalar.addi c0_i32_113 v126
  v127.toNat
def k0_off8 (d0 : Dev nD) (c1_i32_6 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c0_i32_119 : BitVec 32 := 0#32
  let c0_i32_124 : BitVec 32 := 0#32
  let c0_i32_125 : BitVec 32 := 0#32
  ![v24.toNat, 0, 0, 0]
def k0_dev8 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_132 : BitVec 32 := 1#32
  let v144 : BitVec 32 := Scalar.muli v13 c1_i32_132
  let v145 : BitVec 32 := Scalar.addi c0_i32_133 v144
  v145.toNat
def k0_dev9 (d0 : Dev nD) : Nat :=
  let c0_i32_151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_150 : BitVec 32 := 1#32
  let v162 : BitVec 32 := Scalar.muli v24 c1_i32_150
  let v163 : BitVec 32 := Scalar.addi c0_i32_151 v162
  v163.toNat
def k0_dev10 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_159 : BitVec 32 := 1#32
  let v172 : BitVec 32 := Scalar.muli v13 c1_i32_159
  let v173 : BitVec 32 := Scalar.addi c0_i32_160 v172
  v173.toNat
def k0_dev11 (d0 : Dev nD) : Nat :=
  let c0_i32_169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_168 : BitVec 32 := 1#32
  let v182 : BitVec 32 := Scalar.muli v24 c1_i32_168
  let v183 : BitVec 32 := Scalar.addi c0_i32_169 v182
  v183.toNat
def k0_dev12 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_177 : BitVec 32 := 1#32
  let v192 : BitVec 32 := Scalar.muli v13 c1_i32_177
  let v193 : BitVec 32 := Scalar.addi c0_i32_178 v192
  v193.toNat
def k0_off9 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v203 : Index := Scalar.indexCast v2
  let c0_183 : Index := 0#32
  let c0_184 : Index := 0#32
  let c0_185 : Index := 0#32
  ![v203.toNat, 0, 0, 0]
def k0_off10 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v210 : Index := Scalar.indexCast v2
  let c0_188 : Index := 0#32
  let c0_189 : Index := 0#32
  let c0_190 : Index := 0#32
  ![v210.toNat, 0, 0, 0]
def k0_off11 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_193 : BitVec 32 := 0#32
  let c0_i32_198 : BitVec 32 := 0#32
  let c0_i32_199 : BitVec 32 := 0#32
  ![v13.toNat, 0, 0, 0]
def k0_off12 (d0 : Dev nD) (c1_i32_6 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c0_i32_203 : BitVec 32 := 0#32
  let c0_i32_208 : BitVec 32 := 0#32
  let c0_i32_209 : BitVec 32 := 0#32
  ![v24.toNat, 0, 0, 0]
def k0_off13 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v231 : Index := Scalar.indexCast v13
  let c0_212 : Index := 0#32
  let c0_213 : Index := 0#32
  let c0_214 : Index := 0#32
  ![v231.toNat, 0, 0, 0]
def k0_off14 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v238 : Index := Scalar.indexCast v13
  let c0_217 : Index := 0#32
  let c0_218 : Index := 0#32
  let c0_219 : Index := 0#32
  ![v238.toNat, 0, 0, 0]
def k0_off15 (d0 : Dev nD) (c1_i32_6 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v243 : Index := Scalar.indexCast v24
  let c0_221 : Index := 0#32
  let c0_222 : Index := 0#32
  let c0_223 : Index := 0#32
  ![v243.toNat, 0, 0, 0]
def k0_off16 (d0 : Dev nD) (c1_i32_6 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v250 : Index := Scalar.indexCast v24
  let c0_226 : Index := 0#32
  let c0_227 : Index := 0#32
  let c0_228 : Index := 0#32
  ![v250.toNat, 0, 0, 0]
def k0_off17 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_260 : BitVec 32 := 1#32
  let c0_i32_265 : BitVec 32 := 0#32
  let c0_i32_266 : BitVec 32 := 0#32
  ![v13.toNat, 1, 0, 0]
def k0_dev13 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_272 : BitVec 32 := 1#32
  let v292 : BitVec 32 := Scalar.muli v24 c1_i32_272
  let v293 : BitVec 32 := Scalar.addi c0_i32_273 v292
  v293.toNat
def k0_off18 (d0 : Dev nD) (c1_i32_6 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_279 : BitVec 32 := 1#32
  let c0_i32_284 : BitVec 32 := 0#32
  let c0_i32_285 : BitVec 32 := 0#32
  ![v24.toNat, 1, 0, 0]
def k0_dev14 (d0 : Dev nD) : Nat :=
  let c0_i32_292 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_291 : BitVec 32 := 1#32
  let v310 : BitVec 32 := Scalar.muli v13 c1_i32_291
  let v311 : BitVec 32 := Scalar.addi c0_i32_292 v310
  v311.toNat
def k0_dev15 (d0 : Dev nD) : Nat :=
  let c0_i32_309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_308 : BitVec 32 := 1#32
  let v328 : BitVec 32 := Scalar.muli v24 c1_i32_308
  let v329 : BitVec 32 := Scalar.addi c0_i32_309 v328
  v329.toNat
def k0_dev16 (d0 : Dev nD) : Nat :=
  let c0_i32_318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_317 : BitVec 32 := 1#32
  let v338 : BitVec 32 := Scalar.muli v13 c1_i32_317
  let v339 : BitVec 32 := Scalar.addi c0_i32_318 v338
  v339.toNat
def k0_dev17 (d0 : Dev nD) : Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_326 : BitVec 32 := 1#32
  let v348 : BitVec 32 := Scalar.muli v24 c1_i32_326
  let v349 : BitVec 32 := Scalar.addi c0_i32_327 v348
  v349.toNat
def k0_dev18 (d0 : Dev nD) : Nat :=
  let c0_i32_336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_335 : BitVec 32 := 1#32
  let v358 : BitVec 32 := Scalar.muli v13 c1_i32_335
  let v359 : BitVec 32 := Scalar.addi c0_i32_336 v358
  v359.toNat
def k0_off19 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v369 : Index := Scalar.indexCast v2
  let c1 : Index := 1#32
  let c0_342 : Index := 0#32
  let c0_343 : Index := 0#32
  ![v369.toNat, 1, 0, 0]
def k0_off20 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v376 : Index := Scalar.indexCast v2
  let c1_346 : Index := 1#32
  let c0_347 : Index := 0#32
  let c0_348 : Index := 0#32
  ![v376.toNat, 1, 0, 0]
def k0_off21 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_351 : BitVec 32 := 1#32
  let c0_i32_356 : BitVec 32 := 0#32
  let c0_i32_357 : BitVec 32 := 0#32
  ![v13.toNat, 1, 0, 0]
def k0_off22 (d0 : Dev nD) (c1_i32_6 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_361 : BitVec 32 := 1#32
  let c0_i32_366 : BitVec 32 := 0#32
  let c0_i32_367 : BitVec 32 := 0#32
  ![v24.toNat, 1, 0, 0]
def k0_off23 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v397 : Index := Scalar.indexCast v13
  let c1_370 : Index := 1#32
  let c0_371 : Index := 0#32
  let c0_372 : Index := 0#32
  ![v397.toNat, 1, 0, 0]
def k0_off24 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v404 : Index := Scalar.indexCast v13
  let c1_375 : Index := 1#32
  let c0_376 : Index := 0#32
  let c0_377 : Index := 0#32
  ![v404.toNat, 1, 0, 0]
def k0_off25 (d0 : Dev nD) (c1_i32_6 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v409 : Index := Scalar.indexCast v24
  let c1_379 : Index := 1#32
  let c0_380 : Index := 0#32
  let c0_381 : Index := 0#32
  ![v409.toNat, 1, 0, 0]
def k0_off26 (d0 : Dev nD) (c1_i32_6 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v416 : Index := Scalar.indexCast v24
  let c1_384 : Index := 1#32
  let c0_385 : Index := 0#32
  let c0_386 : Index := 0#32
  ![v416.toNat, 1, 0, 0]
def k0_off27 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c2_i32_418 : BitVec 32 := 2#32
  let c0_i32_423 : BitVec 32 := 0#32
  let c0_i32_424 : BitVec 32 := 0#32
  ![v13.toNat, 2, 0, 0]
def k0_dev19 (d0 : Dev nD) : Nat :=
  let c0_i32_431 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_430 : BitVec 32 := 1#32
  let v458 : BitVec 32 := Scalar.muli v24 c1_i32_430
  let v459 : BitVec 32 := Scalar.addi c0_i32_431 v458
  v459.toNat
def k0_off28 (d0 : Dev nD) (c1_i32_6 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c2_i32_437 : BitVec 32 := 2#32
  let c0_i32_442 : BitVec 32 := 0#32
  let c0_i32_443 : BitVec 32 := 0#32
  ![v24.toNat, 2, 0, 0]
def k0_dev20 (d0 : Dev nD) : Nat :=
  let c0_i32_450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_449 : BitVec 32 := 1#32
  let v476 : BitVec 32 := Scalar.muli v13 c1_i32_449
  let v477 : BitVec 32 := Scalar.addi c0_i32_450 v476
  v477.toNat
def k0_off29 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v487 : Index := Scalar.indexCast v2
  let c2 : Index := 2#32
  let c0_456 : Index := 0#32
  let c0_457 : Index := 0#32
  ![v487.toNat, 2, 0, 0]
def k0_off30 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v494 : Index := Scalar.indexCast v2
  let c2_460 : Index := 2#32
  let c0_461 : Index := 0#32
  let c0_462 : Index := 0#32
  ![v494.toNat, 2, 0, 0]
def k0_off31 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c2_i32_465 : BitVec 32 := 2#32
  let c0_i32_470 : BitVec 32 := 0#32
  let c0_i32_471 : BitVec 32 := 0#32
  ![v13.toNat, 2, 0, 0]
def k0_off32 (d0 : Dev nD) (c1_i32_6 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c2_i32_475 : BitVec 32 := 2#32
  let c0_i32_480 : BitVec 32 := 0#32
  let c0_i32_481 : BitVec 32 := 0#32
  ![v24.toNat, 2, 0, 0]
def k0_off33 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v515 : Index := Scalar.indexCast v13
  let c2_484 : Index := 2#32
  let c0_485 : Index := 0#32
  let c0_486 : Index := 0#32
  ![v515.toNat, 2, 0, 0]
def k0_off34 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v522 : Index := Scalar.indexCast v13
  let c2_489 : Index := 2#32
  let c0_490 : Index := 0#32
  let c0_491 : Index := 0#32
  ![v522.toNat, 2, 0, 0]
def k0_off35 (d0 : Dev nD) (c1_i32_6 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v527 : Index := Scalar.indexCast v24
  let c2_493 : Index := 2#32
  let c0_494 : Index := 0#32
  let c0_495 : Index := 0#32
  ![v527.toNat, 2, 0, 0]
def k0_off36 (d0 : Dev nD) (c1_i32_6 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v534 : Index := Scalar.indexCast v24
  let c2_498 : Index := 2#32
  let c0_499 : Index := 0#32
  let c0_500 : Index := 0#32
  ![v534.toNat, 2, 0, 0]
-- ==== ReferenceIdeal.lean ====
abbrev S2048x256 : Shape := ⟨2, ![2048, 256]⟩
abbrev S256x2048 : Shape := ⟨2, ![256, 2048]⟩
abbrev S2048x2048 : Shape := ⟨2, ![2048, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S256x2048, .bf16⟩
  | .hbm, ⟨2, _⟩ => ⟨S2048x256, .bf16⟩
  | .hbm, ⟨3, _⟩ => ⟨S256x2048, .bf16⟩
  | .hbm, ⟨4, _⟩ => ⟨S2048x256, .bf16⟩
  | .hbm, ⟨5, _⟩ => ⟨S256x2048, .bf16⟩
  | .hbm, ⟨6, _⟩ => ⟨S2048x256, .bf16⟩
  | .hbm, ⟨7, _⟩ => ⟨S2048x2048, .f32⟩
  | .hbm, ⟨8, _⟩ => ⟨S2048x2048, .bf16⟩
  | .hbm, ⟨9, _⟩ => ⟨S_, .bf16⟩
  | .hbm, ⟨10, _⟩ => ⟨S2048x2048, .bf16⟩
  | .hbm, ⟨11, _⟩ => ⟨S2048x2048, .bf16⟩
  | .hbm, ⟨12, _⟩ => ⟨S2048x256, .f32⟩
  | .hbm, ⟨13, _⟩ => ⟨S2048x256, .bf16⟩
  | .hbm, ⟨14, _⟩ => ⟨S2048x2048, .f32⟩
  | .hbm, ⟨15, _⟩ => ⟨S2048x2048, .bf16⟩
  | .hbm, ⟨16, _⟩ => ⟨S_, .bf16⟩
  | .hbm, ⟨17, _⟩ => ⟨S2048x2048, .bf16⟩
  | .hbm, ⟨18, _⟩ => ⟨S2048x2048, .bf16⟩
  | .hbm, ⟨19, _⟩ => ⟨S2048x256, .f32⟩
  | .hbm, ⟨20, _⟩ => ⟨S2048x256, .bf16⟩
  | .hbm, ⟨21, _⟩ => ⟨S2048x2048, .f32⟩
  | .hbm, ⟨22, _⟩ => ⟨S2048x2048, .bf16⟩
  | .hbm, ⟨23, _⟩ => ⟨S_, .bf16⟩
  | .hbm, ⟨24, _⟩ => ⟨S2048x2048, .bf16⟩
  | .hbm, ⟨25, _⟩ => ⟨S2048x2048, .bf16⟩
  | .hbm, ⟨26, _⟩ => ⟨S2048x256, .f32⟩
  | .hbm, ⟨27, _⟩ => ⟨S2048x256, .bf16⟩
  | .hbm, ⟨28, _⟩ => ⟨S2048x256, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Slots.lean ====
/-
  The ring kernel's buffers, cut the way the kernel uses them.

  Every device keeps one slot per (owner, layer) of the two weight families: the window `wSl o l` of the gathered
  input-side weights and the window `oSl o l` of the gathered output-side weights. A slot, once filled, holds the
  weights its owner was given for that layer (`gW`, `gO`) — the same contents on every device that has it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Ring
public import Idealize.ShloMosaic.Lib.Tactic

@[expose] public section

noncomputable section

namespace Cert.RingMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The devices: a ring of four -/

set_option backward.proofsInPublic true in
def lft (c : Dev nD) : Dev nD := ⟨(c.val + 3) % 4, Nat.mod_lt _ (by decide)⟩
set_option backward.proofsInPublic true in
def rgt (c : Dev nD) : Dev nD := ⟨(c.val + 1) % 4, Nat.mod_lt _ (by decide)⟩
set_option backward.proofsInPublic true in
def opp (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide

/-! ## The ghost state's algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The slots -/

abbrev winM : Memref sig .tc .vmem S4x3x256x512 .bf16 := Memref.whole cc0_scratch0
abbrev woutM : Memref sig .tc .vmem S4x3x512x256 .bf16 := Memref.whole cc0_scratch1
abbrev xstM : Memref sig .tc .vmem S512x256 .bf16 := Memref.whole cc0_scratch2
abbrev ostM : Memref sig .tc .vmem S512x256 .f32 := Memref.whole cc0_scratch3

theorem wInb : ∀ (o : Dev nD) (l : Fin 3) (a), (![o.val, l.val, 0, 0] : Fin 4 → ℕ) a + S1x1x256x512.size a ≤ S4x3x256x512.size a := by decide
theorem oInb : ∀ (o : Dev nD) (l : Fin 3) (a), (![o.val, l.val, 0, 0] : Fin 4 → ℕ) a + S1x1x512x256.size a ≤ S4x3x512x256.size a := by decide

/-- The place of slot (owner, layer) among the gathered input-side weights, and among the output-side ones. -/
abbrev wRect (o : Dev nD) (l : Fin 3) : Rect S4x3x256x512 := Rect.unit (s := S4x3x256x512) ![o.val, l.val, 0, 0] S1x1x256x512.size (wInb o l)
abbrev oRect (o : Dev nD) (l : Fin 3) : Rect S4x3x512x256 := Rect.unit (s := S4x3x512x256) ![o.val, l.val, 0, 0] S1x1x512x256.size (oInb o l)

abbrev wSl (o : Dev nD) (l : Fin 3) : Memref sig .tc .vmem S256x512 .bf16 :=
  (winM.slice (wRect o l) (fun _ => rfl)).squeeze S256x512 squeezes_S1x1x256x512_S256x512
abbrev oSl (o : Dev nD) (l : Fin 3) : Memref sig .tc .vmem S512x256 .bf16 :=
  (woutM.slice (oRect o l) (fun _ => rfl)).squeeze S512x256 squeezes_S1x1x512x256_S512x256

/-! ## What the slots hold -/

/-- The input-side weights device `o` was given for layer `l`, and its output-side ones. -/
def winAt (o : Dev nD) (l : Fin 3) : S256x512.Idx → Elt F .bf16 := match l with
  | 0 => m ((o : Thread nD τ).loc main_arg1) | 1 => m ((o : Thread nD τ).loc main_arg3) | 2 => m ((o : Thread nD τ).loc main_arg5)
def woutAt (o : Dev nD) (l : Fin 3) : S512x256.Idx → Elt F .bf16 := match l with
  | 0 => m ((o : Thread nD τ).loc main_arg2) | 1 => m ((o : Thread nD τ).loc main_arg4) | 2 => m ((o : Thread nD τ).loc main_arg6)

/-- The gathered weights, every slot filled. -/
def gW : (cc0_scratch0 : Ref sig .tc).ty.Contents (Elt F) := fun i =>
  winAt m (i (0 : Fin 4)) (i (1 : Fin 4)) (ValueIdx.ix2 (i (2 : Fin 4)) (i (3 : Fin 4)))
def gO : (cc0_scratch1 : Ref sig .tc).ty.Contents (Elt F) := fun i =>
  woutAt m (i (0 : Fin 4)) (i (1 : Fin 4)) (ValueIdx.ix2 (i (2 : Fin 4)) (i (3 : Fin 4)))

theorem wSl_emb (o : Dev nD) (l : Fin 3) (a : Fin 256) (b : Fin 512) :
    (wSl o l).view.emb (ValueIdx.ix2 a b : S256x512.Idx) = (ValueIdx.ix4 o l a b : S4x3x256x512.Idx) := by
  show (wRect o l).emb (Shape.reshapeEquiv _ (ValueIdx.ix2 a b)) = _
  rw [ValueIdx.reshapeEquiv_ix2_11ab]
  funext t
  fin_cases t <;> exact Fin.ext (by first | (show _ + 0 * 1 = _; rw [Nat.zero_mul, Nat.add_zero]; rfl) | (show 0 + 1 * _ = _; rw [Nat.one_mul, Nat.zero_add]))
theorem oSl_emb (o : Dev nD) (l : Fin 3) (a : Fin 512) (b : Fin 256) :
    (oSl o l).view.emb (ValueIdx.ix2 a b : S512x256.Idx) = (ValueIdx.ix4 o l a b : S4x3x512x256.Idx) := by
  show (oRect o l).emb (Shape.reshapeEquiv _ (ValueIdx.ix2 a b)) = _
  rw [ValueIdx.reshapeEquiv_ix2_11ab]
  funext t
  fin_cases t <;> exact Fin.ext (by first | (show _ + 0 * 1 = _; rw [Nat.zero_mul, Nat.add_zero]; rfl) | (show 0 + 1 * _ = _; rw [Nat.one_mul, Nat.zero_add]))

omit [FloatOps F] in
theorem read_gW (o : Dev nD) (l : Fin 3) : (wSl o l).view.read (Elt F) (gW m) = winAt m o l := by
  funext x
  obtain ⟨a, b, rfl⟩ : ∃ a b, x = ValueIdx.ix2 a b := ⟨x 0, x 1, by funext t; fin_cases t <;> rfl⟩
  rw [View.read_apply, wSl_emb]
  rfl
omit [FloatOps F] in
theorem read_gO (o : Dev nD) (l : Fin 3) : (oSl o l).view.read (Elt F) (gO m) = woutAt m o l := by
  funext x
  obtain ⟨a, b, rfl⟩ : ∃ a b, x = ValueIdx.ix2 a b := ⟨x 0, x 1, by funext t; fin_cases t <;> rfl⟩
  rw [View.read_apply, oSl_emb]
  rfl

/-- What a landing leaves under its view is any contents that read the landed value there. -/
theorem landed_eq {sp : Space} {s : Shape} {e : EltTy} (v : View sig .tc sp s e) (fd g : v.ty.Contents (Elt F)) (w : s.Idx → Elt F e)
    (h : v.read (Elt F) g = w) : ∀ i ∈ v.set, v.write (Elt F) fd w Finset.univ i = g i := by
  intro i hi
  obtain ⟨x, -, rfl⟩ := Finset.mem_map.mp hi
  rw [View.write_emb_of_mem _ _ (Finset.mem_univ x), ← h, View.read_apply, cast_cast, cast_eq]

/-! ## The slots cut the gathered weights -/

theorem mem_wSl (o : Dev nD) (l : Fin 3) (i : S4x3x256x512.Idx) : i ∈ (wSl o l).view.set ↔ i 0 = o ∧ i 1 = l := by
  constructor
  · intro h
    obtain ⟨x, -, hx⟩ := Finset.mem_map.mp h
    obtain ⟨a, b, rfl⟩ : ∃ a b, x = ValueIdx.ix2 a b := ⟨x 0, x 1, by funext t; fin_cases t <;> rfl⟩
    rw [wSl_emb] at hx
    subst hx; exact ⟨rfl, rfl⟩
  · rintro ⟨rfl, rfl⟩
    refine Finset.mem_map.mpr ⟨ValueIdx.ix2 (i 2) (i 3), Finset.mem_univ _, ?_⟩
    exact (wSl_emb (i 0) (i 1) (i 2) (i 3)).trans (by funext t; fin_cases t <;> rfl)
theorem mem_oSl (o : Dev nD) (l : Fin 3) (i : S4x3x512x256.Idx) : i ∈ (oSl o l).view.set ↔ i 0 = o ∧ i 1 = l := by
  constructor
  · intro h
    obtain ⟨x, -, hx⟩ := Finset.mem_map.mp h
    obtain ⟨a, b, rfl⟩ : ∃ a b, x = ValueIdx.ix2 a b := ⟨x 0, x 1, by funext t; fin_cases t <;> rfl⟩
    rw [oSl_emb] at hx
    subst hx; exact ⟨rfl, rfl⟩
  · rintro ⟨rfl, rfl⟩
    refine Finset.mem_map.mpr ⟨ValueIdx.ix2 (i 2) (i 3), Finset.mem_univ _, ?_⟩
    exact (oSl_emb (i 0) (i 1) (i 2) (i 3)).trans (by funext t; fin_cases t <;> rfl)

def wSet (p : Dev nD × Fin 3) : Finset S4x3x256x512.Idx := (wSl p.1 p.2).view.set
theorem wSet_disj (p p' : Dev nD × Fin 3) (h : p ≠ p') : Disjoint (wSet p) (wSet p') :=
  Finset.disjoint_left.mpr fun i hi hi' => by
    have hi := (mem_wSl _ _ i).mp hi
    have hi' := (mem_wSl _ _ i).mp hi'
    exact h (Prod.ext (hi.1.symm.trans hi'.1) (hi.2.symm.trans hi'.2))
theorem wSet_cover : (Finset.univ : Finset (Dev nD × Fin 3)).biUnion wSet = Finset.univ :=
  Finset.eq_univ_iff_forall.mpr fun i => Finset.mem_biUnion.mpr ⟨(i 0, i 1), Finset.mem_univ _, (mem_wSl _ _ i).mpr ⟨rfl, rfl⟩⟩

def oSet (p : Dev nD × Fin 3) : Finset S4x3x512x256.Idx := (oSl p.1 p.2).view.set
theorem oSet_disj (p p' : Dev nD × Fin 3) (h : p ≠ p') : Disjoint (oSet p) (oSet p') :=
  Finset.disjoint_left.mpr fun i hi hi' => by
    have hi := (mem_oSl _ _ i).mp hi
    have hi' := (mem_oSl _ _ i).mp hi'
    exact h (Prod.ext (hi.1.symm.trans hi'.1) (hi.2.symm.trans hi'.2))
theorem oSet_cover : (Finset.univ : Finset (Dev nD × Fin 3)).biUnion oSet = Finset.univ :=
  Finset.eq_univ_iff_forall.mpr fun i => Finset.mem_biUnion.mpr ⟨(i 0, i 1), Finset.mem_univ _, (mem_oSl _ _ i).mpr ⟨rfl, rfl⟩⟩

/-! ## Holding a slot -/

/-- Slot (owner `o`, layer `l`) of device `c`'s gathered weights, at share `q` and contents `f`. -/
def wAt (c o : Dev nD) (l : Fin 3) (q : PosShare TreeShare) (f : (cc0_scratch0 : Ref sig .tc).ty.Contents (Elt F)) : sProp 𝕄 :=
  (wSl o l).view.loc (c : Thread nD τ) ↦[(wSl o l).view.set]{q} f
def oAt (c o : Dev nD) (l : Fin 3) (q : PosShare TreeShare) (f : (cc0_scratch1 : Ref sig .tc).ty.Contents (Elt F)) : sProp 𝕄 :=
  (oSl o l).view.loc (c : Thread nD τ) ↦[(oSl o l).view.set]{q} f

/-- A slot of either family: filled, and with contents nobody has looked at. -/
def slot (c : Dev nD) (w : Bool) (o : Dev nD) (l : Fin 3) (q : PosShare TreeShare) : sProp 𝕄 := match w with
  | true => wAt c o l q (gW m) | false => oAt c o l q (gO m)
def blank (c : Dev nD) (w : Bool) (o : Dev nD) (l : Fin 3) : sProp 𝕄 := match w with
  | true => iprop(∃ f, wAt c o l fullShare f) | false => iprop(∃ f, oAt c o l fullShare f)

omit [FloatOps F] in
theorem blank_w (c o : Dev nD) (l : Fin 3) : blank (F := F) c true o l = iprop(∃ f, wAt c o l fullShare f) := rfl
omit [FloatOps F] in
theorem blank_o (c o : Dev nD) (l : Fin 3) : blank (F := F) c false o l = iprop(∃ f, oAt c o l fullShare f) := rfl

omit [FloatOps F] in
instance wAt_storable (c o : Dev nD) (l : Fin 3) (q) (f) : BI.Storable (upEmb : UEmb _ 𝕄) (wAt (F := F) c o l q f) := by unfold wAt; infer_instance
omit [FloatOps F] in
instance oAt_storable (c o : Dev nD) (l : Fin 3) (q) (f) : BI.Storable (upEmb : UEmb _ 𝕄) (oAt (F := F) c o l q f) := by unfold oAt; infer_instance
omit [FloatOps F] in
instance slot_storable (c : Dev nD) (w : Bool) (o : Dev nD) (l : Fin 3) (q) : BI.Storable (upEmb : UEmb _ 𝕄) (slot m c w o l q) := by
  cases w <;> (unfold slot; infer_instance)
omit [FloatOps F] in
instance blank_storable (c : Dev nD) (w : Bool) (o : Dev nD) (l : Fin 3) : BI.Storable (upEmb : UEmb _ 𝕄) (blank (F := F) c w o l) := by
  cases w <;> (unfold blank; infer_instance)

omit [FloatOps F] in
/-- A slot's share halves, and comes back together. -/
theorem slot_split (c : Dev nD) (w : Bool) (o : Dev nD) (l : Fin 3) (q : PosShare TreeShare) :
    slot m c w o l q = iprop(slot m c w o l q.left ∗ slot m c w o l q.right) := by
  cases w
  · exact BI.Entails.antisymm (pointsTo_share (PosShare.mem_left_op_right q)).1 (pointsTo_share (PosShare.mem_left_op_right q)).2
  · exact BI.Entails.antisymm (pointsTo_share (PosShare.mem_left_op_right q)).1 (pointsTo_share (PosShare.mem_left_op_right q)).2

omit [FloatOps F] in
/-- Every slot filled is the two whole buffers, gathered; -/
theorem slots_join (c : Dev nD) :
    (bigSep Finset.univ (fun p : Dev nD × Fin 3 => slot m c true p.1 p.2 fullShare) : sProp 𝕄)
      = (((c : Thread nD τ).loc cc0_scratch0) ↦{fullShare} gW m) :=
  (Ring.pointsTo_blocks (ℓ := (c : Thread nD τ).loc cc0_scratch0) wSet wSet_disj wSet_cover (gW m)).symm
omit [FloatOps F] in
theorem oslots_join (c : Dev nD) :
    (bigSep Finset.univ (fun p : Dev nD × Fin 3 => slot m c false p.1 p.2 fullShare) : sProp 𝕄)
      = (((c : Thread nD τ).loc cc0_scratch1) ↦{fullShare} gO m) :=
  (Ring.pointsTo_blocks (ℓ := (c : Thread nD τ).loc cc0_scratch1) oSet oSet_disj oSet_cover (gO m)).symm

omit [FloatOps F] in
/-- and a whole buffer is its slots, blank. -/
theorem blanks_cut (c : Dev nD) (f : (cc0_scratch0 : Ref sig .tc).ty.Contents (Elt F)) :
    (((c : Thread nD τ).loc cc0_scratch0) ↦{fullShare} f : sProp 𝕄)
      ⊢ bigSep Finset.univ (fun p : Dev nD × Fin 3 => blank c true p.1 p.2) :=
  (Entails.of_eq (Ring.pointsTo_blocks (ℓ := (c : Thread nD τ).loc cc0_scratch0) wSet wSet_disj wSet_cover f)).trans
    (bigSep_mono fun p _ => show wAt c p.1 p.2 fullShare f ⊢ iprop(∃ f, wAt c p.1 p.2 fullShare f) from by iintro H; iexists f; iexact H)
omit [FloatOps F] in
theorem oblanks_cut (c : Dev nD) (f : (cc0_scratch1 : Ref sig .tc).ty.Contents (Elt F)) :
    (((c : Thread nD τ).loc cc0_scratch1) ↦{fullShare} f : sProp 𝕄)
      ⊢ bigSep Finset.univ (fun p : Dev nD × Fin 3 => blank c false p.1 p.2) :=
  (Entails.of_eq (Ring.pointsTo_blocks (ℓ := (c : Thread nD τ).loc cc0_scratch1) oSet oSet_disj oSet_cover f)).trans
    (bigSep_mono fun p _ => show oAt c p.1 p.2 fullShare f ⊢ iprop(∃ f, oAt c p.1 p.2 fullShare f) from by iintro H; iexists f; iexact H)

/-! ## What a load of a filled slot reads -/

def ldW (o : Dev nD) (l : Fin 3) : Vec F S1x1x256x512 .bf16 := winM.view.readAt (Elt F) (wRect o l).toLoadRect (gW m)
def ldO (o : Dev nD) (l : Fin 3) : Vec F S1x1x512x256 .bf16 := woutM.view.readAt (Elt F) (oRect o l).toLoadRect (gO m)

theorem wLoad_sub (o : Dev nD) (l : Fin 3) : winM.view.setOn (wRect o l).toLoadRect.set ⊆ (wSl o l).view.set := by
  rw [show (wSl o l).view.set = (winM.view.slice (wRect o l)).set from View.set_reshape _ _, View.set_slice]
  exact subset_of_eq rfl
theorem oLoad_sub (o : Dev nD) (l : Fin 3) : woutM.view.setOn (oRect o l).toLoadRect.set ⊆ (oSl o l).view.set := by
  rw [show (oSl o l).view.set = (woutM.view.slice (oRect o l)).set from View.set_reshape _ _, View.set_slice]
  exact subset_of_eq rfl

end Cert.RingMlp
-- ==== Proof.Protocol.lean ====
/-
  The protocol of the ring kernel.

  Transfer `j = 6 l + k` (layer `l`) of device `c` goes to `tgt c j` and fills there the slot `c` sends from:
    k = 0, 1   own input-side / output-side weights, to the right;
    k = 2, 3   own output-side / input-side weights, to the left;
    k = 4      the left neighbour's input-side weights, on to the right;
    k = 5      the right neighbour's output-side weights, on to the left.
  Send cell `j` is raised by the transfer's departure and gives its issuer the lent share of the source slot back; receive
  cell `j` is raised by the landing and gives the receiver the filled slot. The barrier cell has two duties of one unit:
  `false`, paid by the right neighbour, and `true`, paid by the left one, each handing over the nine blank slots the payer's
  ring neighbour will fill on it. Local copies pay their issuer's own cells. Every cell has one round.
-/
module

public import proofs.«01_k».proof.Proof.Slots

@[expose] public section

noncomputable section

namespace Cert.RingMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores -/

abbrev barS : Sem sig := (SemArray.scalar (sig.barrier 0 rfl) : Sems sig S_).sem
def dq (n : ℕ) (h : n < 44) : DmaSem sig := ⟨n, h⟩
def sendS (j : Fin 18) : DmaSem sig := dq j.val (by omega)
def recvS (j : Fin 18) : DmaSem sig := dq (18 + j.val) (by omega)
def inS (i : Fin 7) : DmaSem sig := dq (36 + i.val) (by omega)
def outS : DmaSem sig := dq 43 (by omega)

abbrev cell (c : Dev nD) (sm : SemLoc sig) : GSem nD τ sig := ((c : Thread nD τ), sm)

/-! ## The transfers -/

def kOf (j : Fin 18) : Fin 6 := ⟨j.val % 6, Nat.mod_lt _ (by decide)⟩
def lOf (j : Fin 18) : Fin 3 := ⟨j.val / 6, by omega⟩
/-- Whether transfer `j` moves input-side weights. -/
def isW (j : Fin 18) : Bool := match kOf j with | 0 => true | 1 => false | 2 => false | 3 => true | 4 => true | 5 => false
/-- Whether it goes to the right. -/
def toR (j : Fin 18) : Bool := match kOf j with | 0 => true | 1 => true | 2 => false | 3 => false | 4 => true | 5 => false
def tgt (c : Dev nD) (j : Fin 18) : Dev nD := match toR j with | true => rgt c | false => lft c
/-- Whose weights it moves, as the sender counts and as the receiver counts. -/
def srcO (c : Dev nD) (j : Fin 18) : Dev nD := match kOf j with | 0 => c | 1 => c | 2 => c | 3 => c | 4 => lft c | 5 => rgt c
def dstO (c : Dev nD) (j : Fin 18) : Dev nD := match kOf j with
  | 0 => lft c | 1 => lft c | 2 => rgt c | 3 => rgt c | 4 => opp c | 5 => opp c
/-- The share of the source slot it is lent. -/
def shr (j : Fin 18) : PosShare TreeShare := match kOf j with
  | 0 => fullShare.left | 1 => fullShare.left | 2 => fullShare.right.left | 3 => fullShare.right.left
  | 4 => fullShare.left | 5 => fullShare.left

theorem dstO_tgt : ∀ (c : Dev nD) (j : Fin 18), dstO (tgt c j) j = srcO c j := by decide

/-! ## Amounts -/

abbrev NW : ℕ := (wSl 0 0).view.dmaCredit
abbrev NO : ℕ := (oSl 0 0).view.dmaCredit
abbrev NX : ℕ := xstM.view.dmaCredit
abbrev NY : ℕ := (Memref.whole main_v1 : Memref sig .tc .hbm S512x256 .f32).view.dmaCredit

def amtJ (w : Bool) : ℕ := match w with | true => NW | false => NO
theorem amtJ_pos (w : Bool) : 0 < amtJ w := by
  cases w
  · exact View.dmaCredit_pos _ (by decide)
  · exact View.dmaCredit_pos _ (by decide)

/-- The kinds of DMA semaphore. -/
inductive Kd : Type | snd (j : Fin 18) | rcv (j : Fin 18) | inp (i : Fin 7) | out
def kd (q : DmaSem sig) : Kd :=
  if h : q.val < 18 then .snd ⟨q.val, h⟩ else if h' : q.val < 36 then .rcv ⟨q.val - 18, by omega⟩
  else if h'' : q.val < 43 then .inp ⟨q.val - 36, by omega⟩ else .out

theorem kd_send (j : Fin 18) : kd (sendS j) = .snd j := by
  unfold kd; rw [dif_pos (show (sendS j).val < 18 from j.isLt)]; rfl
theorem kd_recv (j : Fin 18) : kd (recvS j) = .rcv j := by
  unfold kd
  rw [dif_neg (show ¬(recvS j).val < 18 from by show ¬ 18 + j.val < 18; omega), dif_pos (show (recvS j).val < 36 from by show 18 + j.val < 36; omega)]
  exact congrArg Kd.rcv (Fin.ext (by show 18 + j.val - 18 = j.val; omega))
theorem kd_in (i : Fin 7) : kd (inS i) = .inp i := by
  unfold kd
  rw [dif_neg (show ¬(inS i).val < 18 from by show ¬ 36 + i.val < 18; omega), dif_neg (show ¬(inS i).val < 36 from by show ¬ 36 + i.val < 36; omega),
    dif_pos (show (inS i).val < 43 from by show 36 + i.val < 43; omega)]
  exact congrArg Kd.inp (Fin.ext (by show 36 + i.val - 36 = i.val; omega))
theorem kd_out : kd outS = .out := by unfold kd; rfl

def amtK : Kd → ℕ
  | .snd j => amtJ (isW j) | .rcv j => amtJ (isW j)
  | .inp i => (match i with | 6 => NX | 0 => NW | 1 => NO | 2 => NW | 3 => NO | 4 => NW | 5 => NO) | .out => NY
theorem amtK_pos (k : Kd) : 0 < amtK k := by
  cases k with
  | snd j => exact amtJ_pos _
  | rcv j => exact amtJ_pos _
  | inp i => fin_cases i <;> exact View.dmaCredit_pos _ (by decide)
  | out => exact View.dmaCredit_pos _ (by decide)

/-! ## The result -/

/-- The device's block of the input, as it lies in the staging buffer. -/
def xAt (c : Dev nD) : Vec F S512x256 .bf16 := m ((c : Thread nD τ).loc main_arg0)

def lay0 (x : Vec F S512x256 .bf16) (c : Dev nD) : FVec F S512x256 .bf16 :=
  k0_pay3 x (k0_pay2 x (k0_pay1 x (ldW m c 0) (ldO m c 0)) (ldW m (lft c) 0) (ldO m (lft c) 0) (ldW m (rgt c) 0) (ldO m (rgt c) 0))
    (ldW m (opp c) 0) (ldO m (opp c) 0)
def lay1 (x : FVec F S512x256 .bf16) (c : Dev nD) : FVec F S512x256 .bf16 :=
  k0_pay9 x (k0_pay8 x (k0_pay6 k0_pay4 (k0_pay5 x (ldW m c 1)) (ldO m c 1)) (k0_pay7 x (ldW m (lft c) 1)) (Scalar.ofBits .f32 0x00000000#32)
    (ldO m (lft c) 1) (ldW m (rgt c) 1) (ldO m (rgt c) 1)) (ldW m (opp c) 1) (ldO m (opp c) 1)
def lay2 (x : FVec F S512x256 .bf16) (c : Dev nD) : FVec F S512x256 .f32 :=
  k0_pay14 x (k0_pay13 x (k0_pay11 x k0_pay10 (ldW m c 2) (ldO m c 2)) (k0_pay12 (ldW m (lft c) 2)) (ldO m (lft c) 2) (ldW m (rgt c) 2) (ldO m (rgt c) 2))
    (ldW m (opp c) 2) (ldO m (opp c) 2)
/-- What device `c` leaves as its block of the result. -/
def outAt (c : Dev nD) : FVec F S512x256 .f32 := lay2 m (lay1 m (lay0 m (xAt m c) c) c) c

/-! ## The schedule -/

abbrev argPts (c : Dev nD) (b : Ref sig .tc) : sProp 𝕄 := ((c : Thread nD τ).loc b) ↦{fullShare} (m ((c : Thread nD τ).loc b))

/-- The nine blank slots of device `n`'s ring neighbour on one side, that `n`'s transfers to that side fill. -/
def lent (n : Dev nD) (j : Fin 18) : sProp 𝕄 := blank (tgt n j) (isW j) (srcO n j) (lOf j)
def barPay (n : Dev nD) (d : Bool) : sProp 𝕄 := match d with
  | false => iprop(lent n 0 ∗ lent n 1 ∗ lent n 4 ∗ lent n 6 ∗ lent n 7 ∗ lent n 10 ∗ lent n 12 ∗ lent n 13 ∗ lent n 16)
  | true => iprop(lent n 2 ∗ lent n 3 ∗ lent n 5 ∗ lent n 8 ∗ lent n 9 ∗ lent n 11 ∗ lent n 14 ∗ lent n 15 ∗ lent n 17)

def payK (c : Dev nD) : Kd → sProp 𝕄
  | .snd j => slot m c (isW j) (srcO c j) (lOf j) (shr j)
  | .rcv j => slot m c (isW j) (dstO c j) (lOf j) fullShare
  | .inp i => (match i with
      | 0 => iprop(slot m c true c 0 fullShare ∗ argPts m c main_arg1)
      | 1 => iprop(slot m c false c 0 fullShare ∗ argPts m c main_arg2)
      | 2 => iprop(slot m c true c 1 fullShare ∗ argPts m c main_arg3)
      | 3 => iprop(slot m c false c 1 fullShare ∗ argPts m c main_arg4)
      | 4 => iprop(slot m c true c 2 fullShare ∗ argPts m c main_arg5)
      | 5 => iprop(slot m c false c 2 fullShare ∗ argPts m c main_arg6)
      | 6 => iprop((((c : Thread nD τ).loc cc0_scratch2) ↦{fullShare} xAt m c) ∗ argPts m c main_arg0))
  | .out => iprop((((c : Thread nD τ).loc main_v1) ↦{fullShare} outAt m c) ∗ ((c : Thread nD τ).loc cc0_scratch3) ↦{fullShare} outAt m c)

omit [FloatOps F] in
instance lent_storable (n : Dev nD) (j : Fin 18) : BI.Storable (upEmb : UEmb _ 𝕄) (lent (F := F) n j) := by unfold lent; infer_instance
omit [FloatOps F] in
instance barPay_storable (n : Dev nD) (d : Bool) : BI.Storable (upEmb : UEmb _ 𝕄) (barPay (F := F) n d) := by cases d <;> (unfold barPay; infer_instance)
instance payK_storable (c : Dev nD) (k : Kd) : BI.Storable (upEmb : UEmb _ 𝕄) (payK m c k) := by
  cases k with
  | snd j => unfold payK; infer_instance
  | rcv j => unfold payK; infer_instance
  | inp i => fin_cases i <;> (unfold payK; infer_instance)
  | out => unfold payK; infer_instance

def Rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma q => amtK (kd q)
  payload g _ d := match g.2 with | .reg _ => barPay g.1.1 d | .dma q => payK m g.1.1 (kd q)
  amount_pos g _ _ _ := by
    rcases g with ⟨t, _ | q⟩
    · exact Nat.one_pos
    · exact amtK_pos _

instance Rd_payload_storable (g : GSem nD τ sig) (r : ℕ) (d : Bool) : BI.Storable (upEmb : UEmb _ 𝕄) ((Rd (F := F) m).payload g r d) := by
  rcases g with ⟨t, _ | q⟩
  · exact barPay_storable _ _
  · exact payK_storable _ _ _

section Sched
variable (c : Dev nD) (q : DmaSem sig)

theorem duties_bar (s : Sem sig) : (Rd (F := F) m).duties (cell c (.reg s)) 0 = Finset.univ := by
  dsimp only [Rd]; exact if_pos ⟨rfl, rfl⟩
theorem duties_dma : (Rd (F := F) m).duties (cell c (.dma q)) 0 = {false} := by
  dsimp only [Rd]; exact if_pos ⟨rfl, rfl⟩
theorem duties_later (g : GSem nD τ sig) : ∀ r, 1 ≤ r → (Rd (F := F) m).duties g r = ∅ :=
  fun r hr => if_neg fun h => by omega
theorem amount_bar (s : Sem sig) (d : Bool) : (Rd (F := F) m).amount (cell c (.reg s)) 0 d = 1 := rfl
theorem amount_dma (d : Bool) : (Rd (F := F) m).amount (cell c (.dma q)) 0 d = amtK (kd q) := rfl
theorem expect_bar (s : Sem sig) : (Rd (F := F) m).expect (cell c (.reg s)) 0 = 2 := by
  unfold Schedule.expect Schedule.amountOf
  rw [duties_bar, Finset.sum_congr rfl fun d _ => amount_bar m c s d, Finset.sum_const, Finset.card_univ, Fintype.card_bool, smul_eq_mul]
theorem expect_dma : (Rd (F := F) m).expect (cell c (.dma q)) 0 = amtK (kd q) := by
  unfold Schedule.expect Schedule.amountOf; rw [duties_dma, Finset.sum_singleton, amount_dma]
theorem payload_bar (s : Sem sig) (d : Bool) : (Rd (F := F) m).payload (cell c (.reg s)) 0 d = barPay c d := rfl
theorem payload_dma (d : Bool) : (Rd (F := F) m).payload (cell c (.dma q)) 0 d = payK m c (kd q) := rfl
theorem rest_bar (s : Sem sig) : bigSep ((Rd (F := F) m).duties (cell c (.reg s)) 0 \ ∅) (fun d => (Rd (F := F) m).payload (cell c (.reg s)) 0 d)
    = iprop(barPay c false ∗ barPay c true) := by
  rw [Finset.sdiff_empty, duties_bar, bigSep_univ_eq_bigSepL [false, true] (by decide) (by decide), bigSepL_cons_cons, bigSepL_singleton]; rfl
theorem rest_dma : bigSep ((Rd (F := F) m).duties (cell c (.dma q)) 0 \ ∅) (fun d => (Rd (F := F) m).payload (cell c (.dma q)) 0 d)
    = payK m c (kd q) := by
  rw [Finset.sdiff_empty, duties_dma, bigSep_singleton]; rfl

end Sched

/-! ## What a device still owes, and the levels its waits are ordered by -/

/-- The transfers in program order. -/
def order : List (Fin 18) := [0, 2, 1, 3, 4, 5, 6, 8, 7, 9, 10, 11, 12, 14, 13, 15, 16, 17]
/-- What the transfers of a list are owed at their receive cells. -/
def owedL (c : Dev nD) : List (Fin 18) → CellTallies nD τ sig Unit
  | [] => 0
  | j :: js => owedL c js + tallyAt (cell (tgt c j) (.dma (recvS j))) () (amtJ (isW j))
def O₁ (c : Dev nD) : CellTallies nD τ sig Unit := owedL c order + tallyAt (cell (rgt c) (.reg barS)) () 1
def O₀ (c : Dev nD) : CellTallies nD τ sig Unit := O₁ c + tallyAt (cell (lft c) (.reg barS)) () 1

def L (g : GSem nD τ sig) : Finset Unit := if g.1.2 = .tc then {()} else ∅
/-- Receive cell `j`'s level: a layer's first four below its two forwarded ones, earlier layers below later ones. -/
def rlev (j : Fin 18) : ℕ := 2 + 2 * (j.val / 6) + (if j.val % 6 < 4 then 0 else 1)
def levK : Kd → ℕ | .snd _ => 0 | .rcv j => rlev j | .inp _ => 0 | .out => 0
def slev : SemLoc sig → ℕ | .reg _ => 1 | .dma q => levK (kd q)
def lv (g : GSem nD τ sig) (_ : Unit) : ℕ := slev g.2

theorem L_of_ne (g : GSem nD τ sig) (h : g.1.2 ≠ .tc) : L g = ∅ := if_neg h
theorem L_tc (c : Dev nD) (sm : SemLoc sig) : L (cell c sm) = {()} := if_pos rfl

theorem owedL_pos {c : Dev nD} {g : GSem nD τ sig} {u : Unit} : ∀ {js : List (Fin 18)}, 0 < owedL c js g u →
    ∃ j ∈ js, g = cell (tgt c j) (.dma (recvS j))
  | [], h => absurd h (Nat.lt_irrefl 0)
  | j :: js, h => by
    unfold owedL at h
    rw [Pi.add_apply, Finsupp.add_apply, tallyAt_apply] at h
    by_cases hg : g = cell (tgt c j) (.dma (recvS j)) ∧ u = ()
    · exact ⟨j, List.mem_cons_self, hg.1⟩
    · rw [if_neg hg, Nat.add_zero] at h
      obtain ⟨j', hj', h'⟩ := owedL_pos h
      exact ⟨j', List.mem_cons_of_mem _ hj', h'⟩

omit [FloatOps F] in
/-- A device may wait on a cell below every receive cell it still owes. -/
theorem mayWait (c : Dev nD) (sm : SemLoc sig) (js : List (Fin 18)) (h : ∀ j ∈ js, slev sm < rlev j) :
    (levAts L lv : sProp 𝕄) ⊢ MayWait (c : Thread nD τ) sm () (owedL c js) :=
  MayOwe.of_cut (L := L) (lev := lv) (slev sm) (fun p hp => by rw [Finset.mem_singleton.mp hp, L_tc]; exact Finset.mem_singleton_self _)
    (fun g u hg => by obtain ⟨j, -, rfl⟩ := owedL_pos hg; rw [L_tc]; exact Finset.mem_singleton_self _)
    (fun p hp => by rw [Finset.mem_singleton.mp hp]; exact le_rfl)
    (fun g u hg => by
      obtain ⟨j, hj, rfl⟩ := owedL_pos hg
      show slev sm < levK (kd (recvS j))
      rw [kd_recv]; exact h j hj)

end Cert.RingMlp
-- ==== Proof.Steps.lean ====
/-
  One rule per kind of operation the kernel's body performs, in the form the body's proof consumes them: what the step needs
  on the left of the wands, what it leaves on the left of the continuation's.
-/
module

public import proofs.«01_k».proof.Proof.Protocol

@[expose] public section

noncomputable section

namespace Cert.RingMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The invariant names of the cells. -/
abbrev Names : Type := Dev nD × SemLoc sig → ℕ

/-- What every step may use and none consumes: every cell's invariant, that every cell has reached its round, the levels. -/
def env (K : Names) : sProp 𝕄 :=
  iprop((bigSep Finset.univ fun p : Dev nD × SemLoc sig => cellInv ER (Rd m) (K p) (cell p.1 p.2))
    ∗ (bigSep Finset.univ fun p : Dev nD × SemLoc sig => reached ER (cell p.1 p.2) 0) ∗ levAts L lv)

instance env_persistent (K : Names) : BI.Persistent (env m K) := by unfold env; infer_instance

/-- One member of a family held at every index. -/
theorem pick {I : Type} [Fintype I] [DecidableEq I] (i : I) {Φ : I → sProp 𝕄} : (bigSep Finset.univ Φ : sProp 𝕄) ⊢ Φ i :=
  bigSep_elim (Finset.mem_univ i)

theorem env_inv (K : Names) (c : Dev nD) (sm : SemLoc sig) : env m K ⊢ cellInv ER (Rd m) (K (c, sm)) (cell c sm) := by
  unfold env
  iintro ⟨H, -, -⟩
  iapply (pick (c, sm) (Φ := fun p : Dev nD × SemLoc sig => cellInv ER (Rd m) (K p) (cell p.1 p.2))) $$ H
theorem env_reached (K : Names) (c : Dev nD) (sm : SemLoc sig) : env m K ⊢ reached ER (cell c sm) 0 := by
  unfold env
  iintro ⟨-, H, -⟩
  iapply (pick (c, sm) (Φ := fun p : Dev nD × SemLoc sig => (reached ER (cell p.1 p.2) 0 : sProp 𝕄))) $$ H
theorem env_mayWait (K : Names) (c : Dev nD) (sm : SemLoc sig) (js : List (Fin 18)) (h : ∀ j ∈ js, slev sm < rlev j) :
    env m K ⊢ MayWait (c : Thread nD τ) sm () (owedL c js) := by
  unfold env
  iintro ⟨-, -, H⟩
  iapply (mayWait c sm js h) $$ H

/-- What the device owes, whatever it has waited for. -/
def ow (c : Dev nD) (O : CellTallies nD τ sig Unit) : sProp 𝕄 := iprop(∃ W, owes (c : Thread nD τ) O W)

/-- A DMA cell of the device not yet raised; raised, its credit in hand; waited for and closed. -/
def tick (c : Dev nD) (q : DmaSem sig) : sProp 𝕄 :=
  iprop(dutyTok ER (cell c (.dma q)) 0 false ∗ atPos ER (cell c (.dma q)) 0 ∅ 0)
def fly (c : Dev nD) (q : DmaSem sig) : sProp 𝕄 :=
  iprop(atPos ER (cell c (.dma q)) 0 ∅ 0 ∗ cred (tallyAt (cell c (.dma q)) () (amtK (kd q))))
def shut (c : Dev nD) (q : DmaSem sig) : sProp 𝕄 := semVal (cell c (.dma q)) 0
/-- What transfer `j` is issued with. -/
def sTick (c : Dev nD) (j : Fin 18) : sProp 𝕄 :=
  iprop(tick c (sendS j) ∗ dutyTok ER (cell (tgt c j) (.dma (recvS j))) 0 false)
/-- The barrier cell's: the tokens for the neighbours' cells, the position and the credit of the device's own. -/
def barTick (c : Dev nD) : sProp 𝕄 :=
  iprop(dutyTok ER (cell (lft c) (.reg barS)) 0 false ∗ dutyTok ER (cell (rgt c) (.reg barS)) 0 true)
def barFly (c : Dev nD) : sProp 𝕄 :=
  iprop(atPos ER (cell c (.reg barS)) 0 ∅ 0 ∗ cred (tallyAt (cell c (.reg barS)) () 2))
def barShut (c : Dev nD) : sProp 𝕄 := semVal (cell c (.reg barS)) 0

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (K : Names) (c : Dev nD)

/-! ## Waits -/

/-- A wait on a DMA cell: what the cell's round carries, the cell closed at zero. -/
theorem step_wait {q : DmaSem sig} (q' : DmaSem sig) (hq : q = q') (kk : Kd) (hkk : kd q' = kk) (P : sProp 𝕄) (hP : payK m c kk = P) (js : List (Fin 18))
    (hjs : ∀ j ∈ js, slev (.dma q') < rlev j)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amtK kk)
    {α : Type} {Q : α → sProp 𝕄} {k : PUnit → Prog (TpuEff nD τ sig (Elt F) Λ₀ .tc) α} :
    env m K ⊢ iprop(fly c q' -∗ ow c (owedL c js) -∗ (shut c q' -∗ P -∗ ow c (owedL c js) -∗ WP c (k ⟨⟩) Q)
      -∗ WP c (.op (.waitDma2 q src dst hsrc hdst) k) Q) := by
  subst hq hkk hP
  unfold fly ow shut
  iintro #He ⟨Hat, Hc⟩ ⟨%W, HO⟩ Hk
  iapply (Rounds.wp_wait_rest_token 𝒱₀ ER (Rd m) (c : Thread nD τ) none (κ := K (c, .dma q))
      (wpE_waitDma2_eq 𝒱₀ (c : Thread nD τ) none Set.univ) (Set.mem_univ _) () (O := owedL c js) (W := W) (R := 0) (m := 0) (T := ∅)
      (by rw [Nat.zero_add, expect_dma, hN])) $$ [Hc HO Hat]
  · isplitr; · iapply (env_inv m K c (.dma q)) $$ He
    isplitl [Hc]; · rw [hN]; iexact Hc
    isplitl [HO]; · iexact HO
    isplitr; · iapply (env_mayWait m K c (.dma q) js hjs) $$ He
    iexact Hat
  iintro ⟨HO, Hat, -, Hpay⟩
  ihave Hp := (Entails.of_eq (rest_dma m c q)) $$ Hpay
  imod (Rounds.cell_close ER (Rd m) (Set.mem_univ (K (c, .dma q))) (fun h => h) (R := 0 + 1) (duties_later m (cell c (.dma q)))) $$ [Hat] with Hz
  · isplitr; · iapply (env_inv m K c (.dma q)) $$ He
    iexact Hat
  iapply Hk $$ Hz Hp [HO]
  iexists _; iexact HO

/-- A wait whose landing is a slot of input-side weights. -/
theorem step_waitW {q : DmaSem sig} (q' : DmaSem sig) (hq : q = q') (kk : Kd) (hkk : kd q' = kk) (P : sProp 𝕄) (hP : payK m c kk = P) (js : List (Fin 18))
    (hjs : ∀ j ∈ js, slev (.dma q') < rlev j) (hN : NW = amtK kk)
    {sp' : Space} {s' : Shape} {e' : EltTy} {src : Memref sig .tc sp' s' e'} {off : Fin 4 → ℕ} {hinb : ∀ a, off a + S1x1x256x512.size a ≤ S4x3x256x512.size a}
    {hsrc : src.view.WordExact}
    {hdst : ((winM.slice (Rect.unit (s := S4x3x256x512) off S1x1x256x512.size hinb) (fun _ => rfl)).squeeze S256x512 squeezes_S1x1x256x512_S256x512).view.WordExact}
    {α : Type} {Q : α → sProp 𝕄} {k : PUnit → Prog (TpuEff nD τ sig (Elt F) Λ₀ .tc) α} :
    env m K ⊢ iprop(fly c q' -∗ ow c (owedL c js) -∗ (shut c q' -∗ P -∗ ow c (owedL c js) -∗ WP c (k ⟨⟩) Q)
      -∗ WP c (.op (.waitDma2 q src ((winM.slice (Rect.unit (s := S4x3x256x512) off S1x1x256x512.size hinb) (fun _ => rfl)).squeeze S256x512 squeezes_S1x1x256x512_S256x512) hsrc hdst) k) Q) :=
  step_wait m K c q' hq kk hkk P hP js hjs (src := src) (hsrc := hsrc) (hdst := hdst)
    (dst := (winM.slice (Rect.unit (s := S4x3x256x512) off S1x1x256x512.size hinb) (fun _ => rfl)).squeeze S256x512 squeezes_S1x1x256x512_S256x512) hN

/-- A wait whose landing is a slot of output-side weights. -/
theorem step_waitO {q : DmaSem sig} (q' : DmaSem sig) (hq : q = q') (kk : Kd) (hkk : kd q' = kk) (P : sProp 𝕄) (hP : payK m c kk = P) (js : List (Fin 18))
    (hjs : ∀ j ∈ js, slev (.dma q') < rlev j) (hN : NO = amtK kk)
    {sp' : Space} {s' : Shape} {e' : EltTy} {src : Memref sig .tc sp' s' e'} {off : Fin 4 → ℕ} {hinb : ∀ a, off a + S1x1x512x256.size a ≤ S4x3x512x256.size a}
    {hsrc : src.view.WordExact}
    {hdst : ((woutM.slice (Rect.unit (s := S4x3x512x256) off S1x1x512x256.size hinb) (fun _ => rfl)).squeeze S512x256 squeezes_S1x1x512x256_S512x256).view.WordExact}
    {α : Type} {Q : α → sProp 𝕄} {k : PUnit → Prog (TpuEff nD τ sig (Elt F) Λ₀ .tc) α} :
    env m K ⊢ iprop(fly c q' -∗ ow c (owedL c js) -∗ (shut c q' -∗ P -∗ ow c (owedL c js) -∗ WP c (k ⟨⟩) Q)
      -∗ WP c (.op (.waitDma2 q src ((woutM.slice (Rect.unit (s := S4x3x512x256) off S1x1x512x256.size hinb) (fun _ => rfl)).squeeze S512x256 squeezes_S1x1x512x256_S512x256) hsrc hdst) k) Q) :=
  step_wait m K c q' hq kk hkk P hP js hjs (src := src) (hsrc := hsrc) (hdst := hdst)
    (dst := (woutM.slice (Rect.unit (s := S4x3x512x256) off S1x1x512x256.size hinb) (fun _ => rfl)).squeeze S512x256 squeezes_S1x1x512x256_S512x256) hN

/-- The wait for both neighbours at the barrier: the slots they let the device fill. -/
theorem step_bar {k' : ℕ} (hk' : k' = 2) {s : Sem sig} (hs : s = barS) (js : List (Fin 18)) (hjs : ∀ j ∈ js, 1 < rlev j)
    {α : Type} {Q : α → sProp 𝕄} {k : PUnit → Prog (TpuEff nD τ sig (Elt F) Λ₀ .tc) α} :
    env m K ⊢ iprop(barFly c -∗ ow c (owedL c js) -∗ (barShut c -∗ barPay c false -∗ barPay c true -∗ ow c (owedL c js) -∗ WP c (k ⟨⟩) Q)
      -∗ WP c (.op (.semWait s k') k) Q) := by
  subst hk' hs
  unfold barFly ow barShut
  iintro #He ⟨Hat, Hc⟩ ⟨%W, HO⟩ Hk
  iapply (Rounds.wp_wait_rest_token 𝒱₀ ER (Rd m) (c : Thread nD τ) none (κ := K (c, .reg barS))
      (wpE_semWait_eq 𝒱₀ (c : Thread nD τ) none Set.univ) (Set.mem_univ _) () (O := owedL c js) (W := W) (R := 0) (m := 0) (T := ∅)
      (by rw [Nat.zero_add, expect_bar])) $$ [Hc HO Hat]
  · isplitr; · iapply (env_inv m K c (.reg barS)) $$ He
    isplitl [Hc]; · iexact Hc
    isplitl [HO]; · iexact HO
    isplitr; · iapply (env_mayWait m K c (.reg barS) js hjs) $$ He
    iexact Hat
  iintro ⟨HO, Hat, -, Hpay⟩
  ihave Hp := (Entails.of_eq (rest_bar m c barS)) $$ Hpay
  icases Hp with ⟨Hf, Ht⟩
  imod (Rounds.cell_close ER (Rd m) (Set.mem_univ (K (c, .reg barS))) (fun h => h) (R := 0 + 1) (duties_later m (cell c (.reg barS)))) $$ [Hat] with Hz
  · isplitr; · iapply (env_inv m K c (.reg barS)) $$ He
    iexact Hat
  iapply Hk $$ Hz Hf Ht [HO]
  iexists _; iexact HO

/-! ## Signals -/

/-- A signal to a neighbour `n`'s barrier cell, with the slots `n` is to fill. -/
theorem step_signal {n n' : Dev nD} (hn : n = n') {s : Sem sig} (hs : s = barS) {k' : ℕ} (hk' : k' = 1) (d : Bool) (O : CellTallies nD τ sig Unit)
    {α : Type} {Q : α → sProp 𝕄} {k : PUnit → Prog (TpuEff nD τ sig (Elt F) Λ₀ .tc) α} :
    env m K ⊢ iprop(dutyTok ER (cell n' (.reg barS)) 0 d -∗ ow c (O + tallyAt (cell n' (.reg barS)) () 1) -∗ barPay n' d
      -∗ (ow c O -∗ WP c (k ⟨⟩) Q) -∗ WP c (.op (.semSignal (n : Thread nD τ) s k') k) Q) := by
  subst hn hs hk'
  unfold ow
  iintro #He Ht ⟨%W, HO⟩ Hp Hk
  iapply (Rounds.wp_signal 𝒱₀ ER (Rd m) (c : Thread nD τ) none (dst := (n : Thread nD τ)) (κ := K (n, .reg barS))
      (d := d) (by rw [duties_bar]; exact Finset.mem_univ _) (amount_bar m n barS d) () O rfl) $$ [HO Ht Hp]
  · isplitr; · iapply (env_inv m K n (.reg barS)) $$ He
    isplitl [HO]; · iexact HO
    isplitl [Ht]; · iexact Ht
    isplitl [Hp]; · rw [payload_bar]; iexact Hp
    iapply (env_reached m K n (.reg barS)) $$ He
  iintro HO
  iapply Hk $$ [HO]
  iexists _; iexact HO

/-! ## Copies within the device -/

theorem step_copy {q : DmaSem sig} (q' : DmaSem sig) (hq : q = q') (kk : Kd) (hkk : kd q' = kk)
    {sp sp' : Space} {s : Shape} {e : EltTy} {src : Memref sig .tc sp s e} {dst : Memref sig .tc sp' s e}
    {hsrc : src.view.WordExact} {hdst : dst.view.WordExact} {hsem : DmaTarget.Typed (nD := nD) (τ := τ) (p := .tc) sp (.dma q) (.here dst)}
    {fs : Buf (Elt F) (src.view.loc (c : Thread nD τ))} {fd : Buf (Elt F) (dst.view.loc (c : Thread nD τ))}
    (hN : dst.view.dmaCredit = amtK kk)
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ payK m c kk)
    {α : Type} {Q : α → sProp 𝕄} {k : PUnit → Prog (TpuEff nD τ sig (Elt F) Λ₀ .tc) α} :
    env m K ⊢ iprop(tick c q' -∗ (src.view.loc (c : Thread nD τ) ↦[src.view.set]{fullShare} fs)
      -∗ (dst.view.loc (c : Thread nD τ) ↦[dst.view.set]{fullShare} fd) -∗ (fly c q' -∗ WP c (k ⟨⟩) Q)
      -∗ WP c (.op (.enqueueDma src (.here dst) (.dma q) hsrc hdst hsem) k) Q) := by
  subst hq hkk
  unfold tick fly
  iintro #He ⟨Ht, Hat⟩ Hs Hd Hk
  iapply (Rounds.wp_copy_pointsTo 𝒱₀ ER (Rd m) (c : Thread nD τ) none (κ := K (c, .dma q)) (r := 0) (d := false)
      (by rw [duties_dma]; exact Finset.mem_singleton_self _) () (amtK (kd q)) (show dst.view.amount (.dma q) = _ from hN) (amount_dma m c q false) hpay) $$ [Ht Hs Hd]
  · isplitr; · iapply (env_inv m K c (.dma q)) $$ He
    isplitl [Hs]; · iexact Hs
    isplitl [Hd]; · iexact Hd
    isplitl [Ht]; · iexact Ht
    iapply (env_reached m K c (.dma q)) $$ He
  iintro Hc
  iapply Hk $$ [Hat Hc]
  isplitl [Hat] <;> iassumption

/-- A copy of input-side weights into the device's own slot. -/
theorem step_copyW {q : DmaSem sig} (q' : DmaSem sig) (hq : q = q') (kk : Kd) (hkk : kd q' = kk) (l : Fin 3)
    {off : Fin 4 → ℕ} (hoff : off = ![c.val, l.val, 0, 0]) {hinb : ∀ a, off a + S1x1x256x512.size a ≤ S4x3x256x512.size a}
    {src : Memref sig .tc .hbm S256x512 .bf16} {hsrc : src.view.WordExact}
    {hdst : ((winM.slice (Rect.unit (s := S4x3x256x512) off S1x1x256x512.size hinb) (fun _ => rfl)).squeeze S256x512 squeezes_S1x1x256x512_S256x512).view.WordExact}
    {hsem : DmaTarget.Typed (nD := nD) (τ := τ) (p := .tc) .hbm (.dma q)
      (.here ((winM.slice (Rect.unit (s := S4x3x256x512) off S1x1x256x512.size hinb) (fun _ => rfl)).squeeze S256x512 squeezes_S1x1x256x512_S256x512))}
    {fs : Buf (Elt F) (src.view.loc (c : Thread nD τ))} {A : sProp 𝕄} (hN : NW = amtK kk) (hfs : src.view.read (Elt F) fs = winAt m c l)
    (hpay : payK m c kk = iprop(slot m c true c l fullShare ∗ A)) (hset : src.view.set = Finset.univ)
    (hA : A = (src.view.loc (c : Thread nD τ) ↦{fullShare} fs))
    {α : Type} {Q : α → sProp 𝕄} {k : PUnit → Prog (TpuEff nD τ sig (Elt F) Λ₀ .tc) α} :
    env m K ⊢ iprop(tick c q' -∗ A -∗ blank c true c l -∗ (fly c q' -∗ WP c (k ⟨⟩) Q)
      -∗ WP c (.op (.enqueueDma src (.here ((winM.slice (Rect.unit (s := S4x3x256x512) off S1x1x256x512.size hinb) (fun _ => rfl)).squeeze S256x512
          squeezes_S1x1x256x512_S256x512)) (.dma q) hsrc hdst hsem) k) Q) := by
  subst hoff hA
  iintro #He Ht Hs Hb Hk
  ihave Hb' := (Entails.of_eq (blank_w c c l)) $$ Hb
  unfold wAt
  icases Hb' with ⟨%fd, Hd⟩
  rw [← hset]
  iapply (step_copy m K c q' hq kk hkk (src := src) (dst := wSl c l) (fs := fs) (fd := fd) hN (by
    rw [hpay, hset]
    refine sep_mono_left ?_
    rw [pointsTo_congr (landed_eq (wSl c l).view fd (gW m) _ ((read_gW m c l).trans hfs.symm))]
    exact Entails.refl _)) $$ He Ht Hs Hd Hk

/-- A copy of output-side weights into the device's own slot. -/
theorem step_copyO {q : DmaSem sig} (q' : DmaSem sig) (hq : q = q') (kk : Kd) (hkk : kd q' = kk) (l : Fin 3)
    {off : Fin 4 → ℕ} (hoff : off = ![c.val, l.val, 0, 0]) {hinb : ∀ a, off a + S1x1x512x256.size a ≤ S4x3x512x256.size a}
    {src : Memref sig .tc .hbm S512x256 .bf16} {hsrc : src.view.WordExact}
    {hdst : ((woutM.slice (Rect.unit (s := S4x3x512x256) off S1x1x512x256.size hinb) (fun _ => rfl)).squeeze S512x256 squeezes_S1x1x512x256_S512x256).view.WordExact}
    {hsem : DmaTarget.Typed (nD := nD) (τ := τ) (p := .tc) .hbm (.dma q)
      (.here ((woutM.slice (Rect.unit (s := S4x3x512x256) off S1x1x512x256.size hinb) (fun _ => rfl)).squeeze S512x256 squeezes_S1x1x512x256_S512x256))}
    {fs : Buf (Elt F) (src.view.loc (c : Thread nD τ))} {A : sProp 𝕄} (hN : NO = amtK kk) (hfs : src.view.read (Elt F) fs = woutAt m c l)
    (hpay : payK m c kk = iprop(slot m c false c l fullShare ∗ A)) (hset : src.view.set = Finset.univ)
    (hA : A = (src.view.loc (c : Thread nD τ) ↦{fullShare} fs))
    {α : Type} {Q : α → sProp 𝕄} {k : PUnit → Prog (TpuEff nD τ sig (Elt F) Λ₀ .tc) α} :
    env m K ⊢ iprop(tick c q' -∗ A -∗ blank c false c l -∗ (fly c q' -∗ WP c (k ⟨⟩) Q)
      -∗ WP c (.op (.enqueueDma src (.here ((woutM.slice (Rect.unit (s := S4x3x512x256) off S1x1x512x256.size hinb) (fun _ => rfl)).squeeze S512x256
          squeezes_S1x1x512x256_S512x256)) (.dma q) hsrc hdst hsem) k) Q) := by
  subst hoff hA
  iintro #He Ht Hs Hb Hk
  ihave Hb' := (Entails.of_eq (blank_o c c l)) $$ Hb
  unfold oAt
  icases Hb' with ⟨%fd, Hd⟩
  rw [← hset]
  iapply (step_copy m K c q' hq kk hkk (src := src) (dst := oSl c l) (fs := fs) (fd := fd) hN (by
    rw [hpay, hset]
    refine sep_mono_left ?_
    rw [pointsTo_congr (landed_eq (oSl c l).view fd (gO m) _ ((read_gO m c l).trans hfs.symm))]
    exact Entails.refl _)) $$ He Ht Hs Hd Hk

omit [FloatOps F] in
/-- A whole buffer, held through its view. -/
theorem whole_pts (r : Ref sig .tc) (q : PosShare TreeShare) (f : Buf (Elt F) ((c : Thread nD τ).loc r)) :
    ((((c : Thread nD τ).loc r) ↦{q} f) : sProp 𝕄) = ((Memref.whole r).view.loc (c : Thread nD τ) ↦[(Memref.whole r).view.set]{q} f) := by
  rw [View.set_whole]

/-- The copy of the device's block of the input into its staging buffer. -/
theorem step_copyX {q : DmaSem sig} (hq : q = inS 6)
    {hsrc : (Memref.whole main_arg0 : Memref sig .tc .hbm S512x256 .bf16).view.WordExact} {hdst : xstM.view.WordExact}
    {hsem : DmaTarget.Typed (nD := nD) (τ := τ) (p := .tc) .hbm (.dma q) (.here xstM)}
    {α : Type} {Q : α → sProp 𝕄} {k : PUnit → Prog (TpuEff nD τ sig (Elt F) Λ₀ .tc) α} :
    env m K ⊢ iprop(tick c (inS 6) -∗ argPts m c main_arg0 -∗ (∃ f, ((c : Thread nD τ).loc cc0_scratch2) ↦{fullShare} f) -∗ (fly c (inS 6) -∗ WP c (k ⟨⟩) Q)
      -∗ WP c (.op (.enqueueDma (Memref.whole main_arg0) (.here xstM) (.dma q) hsrc hdst hsem) k) Q) := by
  iintro #He Ht Hs ⟨%fd, Hd⟩ Hk
  ihave Hs := (Entails.of_eq (whole_pts c main_arg0 fullShare (m ((c : Thread nD τ).loc main_arg0)))) $$ Hs
  ihave Hd := (Entails.of_eq (whole_pts c cc0_scratch2 fullShare fd)) $$ Hd
  have hw : xstM.view.write (Elt F) fd ((Memref.whole main_arg0 : Memref sig .tc .hbm S512x256 .bf16).view.read (Elt F) (m ((c : Thread nD τ).loc main_arg0))) Finset.univ
      = xAt m c := (View.write_whole_univ _ _ _).trans (View.read_whole _ _)
  iapply (step_copy m K c (inS 6) hq (.inp 6) (kd_in 6) (src := Memref.whole main_arg0) (dst := xstM) (fs := m ((c : Thread nD τ).loc main_arg0)) (fd := fd) rfl (by
    rw [hw]
    exact Entails.of_eq (congrArg₂ (fun A B : sProp 𝕄 => iprop(A ∗ B)) (whole_pts c cc0_scratch2 fullShare (xAt m c)).symm (whole_pts c main_arg0 fullShare _).symm))) $$ He Ht Hs Hd Hk

/-- The copy of the result out of its staging buffer. -/
theorem step_copyY {q : DmaSem sig} (hq : q = outS)
    {hsrc : ostM.view.WordExact} {hdst : (Memref.whole main_v1 : Memref sig .tc .hbm S512x256 .f32).view.WordExact}
    {hsem : DmaTarget.Typed (nD := nD) (τ := τ) (p := .tc) .vmem (.dma q) (.here (Memref.whole main_v1 : Memref sig .tc .hbm S512x256 .f32))}
    {α : Type} {Q : α → sProp 𝕄} {k : PUnit → Prog (TpuEff nD τ sig (Elt F) Λ₀ .tc) α} :
    env m K ⊢ iprop(tick c outS -∗ (((c : Thread nD τ).loc cc0_scratch3) ↦{fullShare} outAt m c) -∗ (∃ f, ((c : Thread nD τ).loc main_v1) ↦{fullShare} f)
      -∗ (fly c outS -∗ WP c (k ⟨⟩) Q)
      -∗ WP c (.op (.enqueueDma ostM (.here (Memref.whole main_v1)) (.dma q) hsrc hdst hsem) k) Q) := by
  iintro #He Ht Hs ⟨%fd, Hd⟩ Hk
  ihave Hs := (Entails.of_eq (whole_pts c cc0_scratch3 fullShare (outAt m c))) $$ Hs
  ihave Hd := (Entails.of_eq (whole_pts c main_v1 fullShare fd)) $$ Hd
  have hw : (Memref.whole main_v1 : Memref sig .tc .hbm S512x256 .f32).view.write (Elt F) fd (ostM.view.read (Elt F) (outAt m c)) Finset.univ
      = outAt m c := (View.write_whole_univ _ _ _).trans (View.read_whole _ _)
  iapply (step_copy m K c outS hq .out kd_out (src := ostM) (dst := Memref.whole main_v1) (fs := outAt m c) (fd := fd) rfl (by
    rw [hw]
    exact Entails.of_eq (congrArg₂ (fun A B : sProp 𝕄 => iprop(A ∗ B)) (whole_pts c main_v1 fullShare (outAt m c)).symm (whole_pts c cc0_scratch3 fullShare _).symm))) $$ He Ht Hs Hd Hk

/-! ## Copies to the neighbours -/

theorem slot_w (o : Dev nD) (l : Fin 3) (q : PosShare TreeShare) :
    (slot m c true o l q : sProp 𝕄) = ((wSl o l).view.loc (c : Thread nD τ) ↦[(wSl o l).view.set]{q} gW m) := rfl
theorem slot_o (o : Dev nD) (l : Fin 3) (q : PosShare TreeShare) :
    (slot m c false o l q : sProp 𝕄) = ((oSl o l).view.loc (c : Thread nD τ) ↦[(oSl o l).view.set]{q} gO m) := rfl

/-- A send of a slot at any source share: the lent share and the blank slot go in. -/
theorem step_send (j : Fin 18) (js : List (Fin 18)) {n : Dev nD} (hn : n = tgt c j) {q q' : DmaSem sig} (hq : q = sendS j) (hq' : q' = recvS j)
    {sp sp' : Space} {s : Shape} {src : Memref sig .tc sp s .bf16} {dst : Memref sig (Dev.tc n : Thread nD τ).2.kind sp' s .bf16}
    {hsc : dst.view.ref.isScScratch = false} {hsrc : src.view.WordExact} {hdst : dst.view.WordExact}
    {hsem : DmaTarget.Typed sp (.dma q') (.remote (Dev.tc n : Thread nD τ) dst (.dma q) hsc)}
    {sh : PosShare TreeShare} {fs : Buf (Elt F) (src.view.loc (c : Thread nD τ))} {fd : Buf (Elt F) (dst.view.loc (n : Thread nD τ))}
    (hN : dst.view.dmaCredit = amtJ (isW j))
    (hpay₁ : (src.view.loc (c : Thread nD τ) ↦[src.view.set]{sh} fs) ⊢ payK m c (.snd j))
    (hpay₂ : (dst.view.loc (n : Thread nD τ) ↦[dst.view.set]{fullShare} (dst.view.write (Elt F) fd (src.view.read (Elt F) fs) Finset.univ)) ⊢ payK m n (.rcv j))
    {α : Type} {Q : α → sProp 𝕄} {k : PUnit → Prog (TpuEff nD τ sig (Elt F) Λ₀ .tc) α} :
    env m K ⊢ iprop(sTick c j -∗ ow c (owedL c (j :: js)) -∗ (src.view.loc (c : Thread nD τ) ↦[src.view.set]{sh} fs)
      -∗ (dst.view.loc (n : Thread nD τ) ↦[dst.view.set]{fullShare} fd) -∗ (fly c (sendS j) -∗ ow c (owedL c js) -∗ WP c (k ⟨⟩) Q)
      -∗ WP c (.op (.enqueueDma src (.remote (Dev.tc n : Thread nD τ) dst (.dma q) hsc) (.dma q') hsrc hdst hsem) k) Q) := by
  subst hn hq hq'
  unfold sTick tick fly ow
  rw [kd_send]
  iintro #He ⟨⟨Ht, Hat⟩, Htr⟩ ⟨%W, HO⟩ Hs Hd Hk
  iapply (Rounds.wp_send_pointsTo 𝒱₀ ER (Rd m) (c : Thread nD τ) none (κ₁ := K (c, .dma (sendS j))) (κ₂ := K (tgt c j, .dma (recvS j)))
    (r₁ := 0) (r₂ := 0) (d₁ := false) (d₂ := false) (fd := fd)
    (by rw [duties_dma]; exact Finset.mem_singleton_self _) (by rw [duties_dma]; exact Finset.mem_singleton_self _)
    () () (amtK (.snd j)) (show dst.view.amount (.dma (recvS j)) = amtK (.snd j) from hN) ((amount_dma m c (sendS j) false).trans (by rw [kd_send]))
    ((amount_dma m (tgt c j) (recvS j) false).trans (by rw [kd_recv]; rfl)) (owedL c js) rfl (W := W)
    (by rw [payload_dma, kd_send]; exact hpay₁) (by rw [payload_dma, kd_recv]; exact hpay₂)) $$ [Ht Htr HO Hs Hd]
  · isplitr; · iapply (env_inv m K c (.dma (sendS j))) $$ He
    isplitr; · iapply (env_inv m K (tgt c j) (.dma (recvS j))) $$ He
    isplitl [Hs]; · iexact Hs
    isplitl [Hd]; · iexact Hd
    isplitl [HO]; · iexact HO
    isplitl [Ht]; · iexact Ht
    isplitr; · iapply (env_reached m K c (.dma (sendS j))) $$ He
    isplitl [Htr]; · iexact Htr
    iapply (env_reached m K (tgt c j) (.dma (recvS j))) $$ He
  iintro ⟨Hc, HO⟩
  iapply Hk $$ [Hat Hc] [HO]
  · isplitl [Hat] <;> iassumption
  iexists W; iexact HO

/-- The send of a slot of input-side weights. -/
theorem step_sendW (j : Fin 18) (js : List (Fin 18)) (o : Dev nD) (l : Fin 3) (sh : PosShare TreeShare)
    (hw : isW j = true) (ho : srcO c j = o) (hl : lOf j = l) (hsh : shr j = sh) {n : Dev nD} (hn : n = tgt c j) {q q' : DmaSem sig} (hq : q = sendS j) (hq' : q' = recvS j)
    {off : Fin 4 → ℕ} (hoff : off = ![o.val, l.val, 0, 0]) {hinb : ∀ a, off a + S1x1x256x512.size a ≤ S4x3x256x512.size a}
    {hsc : ((((winM.slice (Rect.unit (s := S4x3x256x512) off S1x1x256x512.size hinb) (fun _ => rfl)).squeeze S256x512 squeezes_S1x1x256x512_S256x512) : Memref sig .tc .vmem S256x512 .bf16) : Memref sig (Dev.tc n : Thread nD τ).2.kind .vmem S256x512 .bf16).view.ref.isScScratch = false}
    {hsrc : (((winM.slice (Rect.unit (s := S4x3x256x512) off S1x1x256x512.size hinb) (fun _ => rfl)).squeeze S256x512 squeezes_S1x1x256x512_S256x512) : Memref sig .tc .vmem S256x512 .bf16).view.WordExact}
    {hdst : ((((winM.slice (Rect.unit (s := S4x3x256x512) off S1x1x256x512.size hinb) (fun _ => rfl)).squeeze S256x512 squeezes_S1x1x256x512_S256x512) : Memref sig .tc .vmem S256x512 .bf16) : Memref sig (Dev.tc n : Thread nD τ).2.kind .vmem S256x512 .bf16).view.WordExact}
    {hsem : DmaTarget.Typed .vmem (.dma q') (.remote (Dev.tc n : Thread nD τ) (((winM.slice (Rect.unit (s := S4x3x256x512) off S1x1x256x512.size hinb) (fun _ => rfl)).squeeze S256x512 squeezes_S1x1x256x512_S256x512) : Memref sig .tc .vmem S256x512 .bf16) (.dma q) hsc)}
    {α : Type} {Q : α → sProp 𝕄} {k : PUnit → Prog (TpuEff nD τ sig (Elt F) Λ₀ .tc) α} :
    env m K ⊢ iprop(sTick c j -∗ ow c (owedL c (j :: js)) -∗ slot m c true o l sh -∗ lent c j
      -∗ (fly c (sendS j) -∗ ow c (owedL c js) -∗ WP c (k ⟨⟩) Q)
      -∗ WP c (.op (.enqueueDma (((winM.slice (Rect.unit (s := S4x3x256x512) off S1x1x256x512.size hinb) (fun _ => rfl)).squeeze S256x512 squeezes_S1x1x256x512_S256x512) : Memref sig .tc .vmem S256x512 .bf16)
          (.remote (Dev.tc n : Thread nD τ) (((winM.slice (Rect.unit (s := S4x3x256x512) off S1x1x256x512.size hinb) (fun _ => rfl)).squeeze S256x512 squeezes_S1x1x256x512_S256x512) : Memref sig .tc .vmem S256x512 .bf16) (.dma q) hsc) (.dma q') hsrc hdst hsem) k) Q) := by
  subst hoff hn ho hl hsh
  unfold lent
  rw [hw]
  iintro #He Ht HO Hs Hd Hk
  ihave Hd' := (Entails.of_eq (blank_w (tgt c j) (srcO c j) (lOf j))) $$ Hd
  unfold wAt
  ihave Hs := (Entails.of_eq (slot_w m c (srcO c j) (lOf j) (shr j))) $$ Hs
  icases Hd' with ⟨%fd, Hd⟩
  iapply (step_send m K c j js rfl hq hq' (src := wSl (srcO c j) (lOf j)) (dst := wSl (srcO c j) (lOf j)) (sh := shr j) (fs := gW m) (fd := fd)
    (by rw [hw]; rfl)
    (by show _ ⊢ slot m c (isW j) (srcO c j) (lOf j) (shr j); rw [hw]; exact Entails.refl _)
    (by
      show _ ⊢ slot m (tgt c j) (isW j) (dstO (tgt c j) j) (lOf j) fullShare
      rw [hw, dstO_tgt, pointsTo_congr (landed_eq (wSl (srcO c j) (lOf j)).view fd (gW m) _ rfl)]
      exact Entails.refl _)) $$ He Ht HO Hs Hd Hk

/-- The send of a slot of output-side weights. -/
theorem step_sendO (j : Fin 18) (js : List (Fin 18)) (o : Dev nD) (l : Fin 3) (sh : PosShare TreeShare)
    (hw : isW j = false) (ho : srcO c j = o) (hl : lOf j = l) (hsh : shr j = sh) {n : Dev nD} (hn : n = tgt c j) {q q' : DmaSem sig} (hq : q = sendS j) (hq' : q' = recvS j)
    {off : Fin 4 → ℕ} (hoff : off = ![o.val, l.val, 0, 0]) {hinb : ∀ a, off a + S1x1x512x256.size a ≤ S4x3x512x256.size a}
    {hsc : ((((woutM.slice (Rect.unit (s := S4x3x512x256) off S1x1x512x256.size hinb) (fun _ => rfl)).squeeze S512x256 squeezes_S1x1x512x256_S512x256) : Memref sig .tc .vmem S512x256 .bf16) : Memref sig (Dev.tc n : Thread nD τ).2.kind .vmem S512x256 .bf16).view.ref.isScScratch = false}
    {hsrc : (((woutM.slice (Rect.unit (s := S4x3x512x256) off S1x1x512x256.size hinb) (fun _ => rfl)).squeeze S512x256 squeezes_S1x1x512x256_S512x256) : Memref sig .tc .vmem S512x256 .bf16).view.WordExact}
    {hdst : ((((woutM.slice (Rect.unit (s := S4x3x512x256) off S1x1x512x256.size hinb) (fun _ => rfl)).squeeze S512x256 squeezes_S1x1x512x256_S512x256) : Memref sig .tc .vmem S512x256 .bf16) : Memref sig (Dev.tc n : Thread nD τ).2.kind .vmem S512x256 .bf16).view.WordExact}
    {hsem : DmaTarget.Typed .vmem (.dma q') (.remote (Dev.tc n : Thread nD τ) (((woutM.slice (Rect.unit (s := S4x3x512x256) off S1x1x512x256.size hinb) (fun _ => rfl)).squeeze S512x256 squeezes_S1x1x512x256_S512x256) : Memref sig .tc .vmem S512x256 .bf16) (.dma q) hsc)}
    {α : Type} {Q : α → sProp 𝕄} {k : PUnit → Prog (TpuEff nD τ sig (Elt F) Λ₀ .tc) α} :
    env m K ⊢ iprop(sTick c j -∗ ow c (owedL c (j :: js)) -∗ slot m c false o l sh -∗ lent c j
      -∗ (fly c (sendS j) -∗ ow c (owedL c js) -∗ WP c (k ⟨⟩) Q)
      -∗ WP c (.op (.enqueueDma (((woutM.slice (Rect.unit (s := S4x3x512x256) off S1x1x512x256.size hinb) (fun _ => rfl)).squeeze S512x256 squeezes_S1x1x512x256_S512x256) : Memref sig .tc .vmem S512x256 .bf16)
          (.remote (Dev.tc n : Thread nD τ) (((woutM.slice (Rect.unit (s := S4x3x512x256) off S1x1x512x256.size hinb) (fun _ => rfl)).squeeze S512x256 squeezes_S1x1x512x256_S512x256) : Memref sig .tc .vmem S512x256 .bf16) (.dma q) hsc) (.dma q') hsrc hdst hsem) k) Q) := by
  subst hoff hn ho hl hsh
  unfold lent
  rw [hw]
  iintro #He Ht HO Hs Hd Hk
  ihave Hd' := (Entails.of_eq (blank_o (tgt c j) (srcO c j) (lOf j))) $$ Hd
  unfold oAt
  ihave Hs := (Entails.of_eq (slot_o m c (srcO c j) (lOf j) (shr j))) $$ Hs
  icases Hd' with ⟨%fd, Hd⟩
  iapply (step_send m K c j js rfl hq hq' (src := oSl (srcO c j) (lOf j)) (dst := oSl (srcO c j) (lOf j)) (sh := shr j) (fs := gO m) (fd := fd)
    (by rw [hw]; rfl)
    (by show _ ⊢ slot m c (isW j) (srcO c j) (lOf j) (shr j); rw [hw]; exact Entails.refl _)
    (by
      show _ ⊢ slot m (tgt c j) (isW j) (dstO (tgt c j) j) (lOf j) fullShare
      rw [hw, dstO_tgt, pointsTo_congr (landed_eq (oSl (srcO c j) (lOf j)).view fd (gO m) _ rfl)]
      exact Entails.refl _)) $$ He Ht HO Hs Hd Hk

/-! ## Loads and the store -/

/-- A load of a filled slot, at any share of it. -/
theorem step_loadW (o : Dev nD) (l : Fin 3) {q : PosShare TreeShare} {off : Fin 4 → ℕ} (hoff : off = ![o.val, l.val, 0, 0])
    {hinb : ∀ a, off a + S1x1x256x512.size a ≤ S4x3x256x512.size a}
    {hl : winM.view.LoadsAt (Rect.unit (s := S4x3x256x512) off S1x1x256x512.size hinb).toLoadRect}
    {α : Type} {Q : α → sProp 𝕄} {k : Vec F S1x1x256x512 .bf16 → Prog (TpuEff nD τ sig (Elt F) Λ₀ .tc) α} :
    slot m c true o l q ⊢ iprop((slot m c true o l q -∗ WP c (k (ldW m o l)) Q)
      -∗ WP c (.op (.load winM (Rect.unit (s := S4x3x256x512) off S1x1x256x512.size hinb).toLoadRect hl) k) Q) := by
  subst hoff
  exact wp_load 𝒱₀ (c : Thread nD τ) none Set.univ (m := winM) (r := (wRect o l).toLoadRect) (S := (wSl o l).view.set) (f := gW m) (wLoad_sub o l)
theorem step_loadO (o : Dev nD) (l : Fin 3) {q : PosShare TreeShare} {off : Fin 4 → ℕ} (hoff : off = ![o.val, l.val, 0, 0])
    {hinb : ∀ a, off a + S1x1x512x256.size a ≤ S4x3x512x256.size a}
    {hl : woutM.view.LoadsAt (Rect.unit (s := S4x3x512x256) off S1x1x512x256.size hinb).toLoadRect}
    {α : Type} {Q : α → sProp 𝕄} {k : Vec F S1x1x512x256 .bf16 → Prog (TpuEff nD τ sig (Elt F) Λ₀ .tc) α} :
    slot m c false o l q ⊢ iprop((slot m c false o l q -∗ WP c (k (ldO m o l)) Q)
      -∗ WP c (.op (.load woutM (Rect.unit (s := S4x3x512x256) off S1x1x512x256.size hinb).toLoadRect hl) k) Q) := by
  subst hoff
  exact wp_load 𝒱₀ (c : Thread nD τ) none Set.univ (m := woutM) (r := (oRect o l).toLoadRect) (S := (oSl o l).view.set) (f := gO m) (oLoad_sub o l)

omit [FloatOps F] in
theorem origin2 : (![0, 0] : Fin 2 → Nat) = fun _ => 0 := funext fun a => by fin_cases a <;> rfl

abbrev r00 : Rect S512x256 := Rect.unit (s := S512x256) ![0, 0] S512x256.size inb_S512x256_S512x256_0_0

/-- The load of the staged input; the load and the store of the staged result. -/
theorem step_loadX {q : PosShare TreeShare} {f : (cc0_scratch2 : Ref sig .tc).ty.Contents (Elt F)} {hl : xstM.view.LoadsAt r00.toLoadRect}
    {α : Type} {Q : α → sProp 𝕄} {k : Vec F S512x256 .bf16 → Prog (TpuEff nD τ sig (Elt F) Λ₀ .tc) α} :
    (((c : Thread nD τ).loc cc0_scratch2) ↦{q} f) ⊢ iprop(((((c : Thread nD τ).loc cc0_scratch2) ↦{q} f) -∗ WP c (k f) Q)
      -∗ WP c (.op (.load xstM r00.toLoadRect hl) k) Q) := by
  have h := wp_load (defs := defs₀ (F := F)) (Ix := Unit) (Name := ℕ) (U := UU) (Lvl := ℕ) (Γ := .empty) 𝒱₀ (c : Thread nD τ) none Set.univ (m := xstM) (r := r00.toLoadRect) (hl := hl) (S := Finset.univ) (q := q) (f := f) (k := k) (Q := Q) (Finset.subset_univ _)
  rw [show xstM.view.readAt (Elt F) r00.toLoadRect f = f from Memref.readAt_unit_zero (Elt F) cc0_scratch2 origin2 _ f] at h
  exact h
theorem step_loadY {q : PosShare TreeShare} {f : (cc0_scratch3 : Ref sig .tc).ty.Contents (Elt F)} {hl : ostM.view.LoadsAt r00.toLoadRect}
    {α : Type} {Q : α → sProp 𝕄} {k : Vec F S512x256 .f32 → Prog (TpuEff nD τ sig (Elt F) Λ₀ .tc) α} :
    (((c : Thread nD τ).loc cc0_scratch3) ↦{q} f) ⊢ iprop(((((c : Thread nD τ).loc cc0_scratch3) ↦{q} f) -∗ WP c (k f) Q)
      -∗ WP c (.op (.load ostM r00.toLoadRect hl) k) Q) := by
  have h := wp_load (defs := defs₀ (F := F)) (Ix := Unit) (Name := ℕ) (U := UU) (Lvl := ℕ) (Γ := .empty) 𝒱₀ (c : Thread nD τ) none Set.univ (m := ostM) (r := r00.toLoadRect) (hl := hl) (S := Finset.univ) (q := q) (f := f) (k := k) (Q := Q) (Finset.subset_univ _)
  rw [show ostM.view.readAt (Elt F) r00.toLoadRect f = f from Memref.readAt_unit_zero (Elt F) cc0_scratch3 origin2 _ f] at h
  exact h
theorem step_storeY {f w : (cc0_scratch3 : Ref sig .tc).ty.Contents (Elt F)} {hx : (ostM.access r00).Stores Finset.univ} {hm}
    {α : Type} {Q : α → sProp 𝕄} {k : PUnit → Prog (TpuEff nD τ sig (Elt F) Λ₀ .tc) α} :
    (((c : Thread nD τ).loc cc0_scratch3) ↦{fullShare} f) ⊢ iprop(((((c : Thread nD τ).loc cc0_scratch3) ↦{fullShare} w) -∗ WP c (k ⟨⟩) Q)
      -∗ WP c (.op (.store ostM r00 w Finset.univ hx hm) k) Q) := by
  have h := wp_store (defs := defs₀ (F := F)) (Ix := Unit) (Name := ℕ) (U := UU) (Lvl := ℕ) (Γ := .empty) 𝒱₀ (c : Thread nD τ) none Set.univ (m := ostM) (r := r00) (w := w) (Mk := Finset.univ) (hx := hx) (hm := hm) (S := Finset.univ) (f := f) (k := k) (Q := Q) (Finset.subset_univ _)
  rw [show (ostM.access r00).write (Elt F) f w Finset.univ = w from Memref.write_access_unit_zero_univ (Elt F) cc0_scratch3 origin2 _ f w] at h
  exact h

theorem step_ret {α : Type} {Q : α → sProp 𝕄} (a : α) : Q a ⊢ WP c (.ret a) Q := by
  rw [WP, wp_ret]
  iintro H
  imodintro
  iexact H

end Cert.RingMlp
-- ==== Proof.Sites.lean ====
/-
  The places the kernel addresses, and the order of its transfers: every offset the body computes is a device's place in the ring,
  every target a neighbour. The names the parts of the body are stated with.
-/
module

public import proofs.«01_k».proof.Proof.Steps

@[expose] public section

noncomputable section

namespace Cert.RingMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Offsets and targets -/

theorem at1 : ∀ d : Dev nD, k0_off1 d = ![d.val, 0, 0, 0] := by decide +kernel
theorem at2 : ∀ d : Dev nD, k0_off2 d = ![d.val, 0, 0, 0] := by decide +kernel
theorem at3 : ∀ d : Dev nD, k0_off3 d = ![d.val, 1, 0, 0] := by decide +kernel
theorem at4 : ∀ d : Dev nD, k0_off4 d = ![d.val, 1, 0, 0] := by decide +kernel
theorem at5 : ∀ d : Dev nD, k0_off5 d = ![d.val, 2, 0, 0] := by decide +kernel
theorem at6 : ∀ d : Dev nD, k0_off6 d = ![d.val, 2, 0, 0] := by decide +kernel
theorem at7 : ∀ d : Dev nD, k0_off7 d = ![(lft d).val, 0, 0, 0] := by decide +kernel
theorem at8r : ∀ d : Dev nD, k0_off8 d 1#32 = ![(rgt d).val, 0, 0, 0] := by decide +kernel
theorem at8p : ∀ d : Dev nD, k0_off8 d 2#32 = ![(opp d).val, 0, 0, 0] := by decide +kernel
theorem at9 : ∀ d : Dev nD, k0_off9 d = ![d.val, 0, 0, 0] := by decide +kernel
theorem at10 : ∀ d : Dev nD, k0_off10 d = ![d.val, 0, 0, 0] := by decide +kernel
theorem at11 : ∀ d : Dev nD, k0_off11 d = ![(lft d).val, 0, 0, 0] := by decide +kernel
theorem at12r : ∀ d : Dev nD, k0_off12 d 1#32 = ![(rgt d).val, 0, 0, 0] := by decide +kernel
theorem at12p : ∀ d : Dev nD, k0_off12 d 2#32 = ![(opp d).val, 0, 0, 0] := by decide +kernel
theorem at13 : ∀ d : Dev nD, k0_off13 d = ![(lft d).val, 0, 0, 0] := by decide +kernel
theorem at14 : ∀ d : Dev nD, k0_off14 d = ![(lft d).val, 0, 0, 0] := by decide +kernel
theorem at15r : ∀ d : Dev nD, k0_off15 d 1#32 = ![(rgt d).val, 0, 0, 0] := by decide +kernel
theorem at15p : ∀ d : Dev nD, k0_off15 d 2#32 = ![(opp d).val, 0, 0, 0] := by decide +kernel
theorem at16r : ∀ d : Dev nD, k0_off16 d 1#32 = ![(rgt d).val, 0, 0, 0] := by decide +kernel
theorem at16p : ∀ d : Dev nD, k0_off16 d 2#32 = ![(opp d).val, 0, 0, 0] := by decide +kernel
theorem at17 : ∀ d : Dev nD, k0_off17 d = ![(lft d).val, 1, 0, 0] := by decide +kernel
theorem at18r : ∀ d : Dev nD, k0_off18 d 1#32 = ![(rgt d).val, 1, 0, 0] := by decide +kernel
theorem at18p : ∀ d : Dev nD, k0_off18 d 2#32 = ![(opp d).val, 1, 0, 0] := by decide +kernel
theorem at19 : ∀ d : Dev nD, k0_off19 d = ![d.val, 1, 0, 0] := by decide +kernel
theorem at20 : ∀ d : Dev nD, k0_off20 d = ![d.val, 1, 0, 0] := by decide +kernel
theorem at21 : ∀ d : Dev nD, k0_off21 d = ![(lft d).val, 1, 0, 0] := by decide +kernel
theorem at22r : ∀ d : Dev nD, k0_off22 d 1#32 = ![(rgt d).val, 1, 0, 0] := by decide +kernel
theorem at22p : ∀ d : Dev nD, k0_off22 d 2#32 = ![(opp d).val, 1, 0, 0] := by decide +kernel
theorem at23 : ∀ d : Dev nD, k0_off23 d = ![(lft d).val, 1, 0, 0] := by decide +kernel
theorem at24 : ∀ d : Dev nD, k0_off24 d = ![(lft d).val, 1, 0, 0] := by decide +kernel
theorem at25r : ∀ d : Dev nD, k0_off25 d 1#32 = ![(rgt d).val, 1, 0, 0] := by decide +kernel
theorem at25p : ∀ d : Dev nD, k0_off25 d 2#32 = ![(opp d).val, 1, 0, 0] := by decide +kernel
theorem at26r : ∀ d : Dev nD, k0_off26 d 1#32 = ![(rgt d).val, 1, 0, 0] := by decide +kernel
theorem at26p : ∀ d : Dev nD, k0_off26 d 2#32 = ![(opp d).val, 1, 0, 0] := by decide +kernel
theorem at27 : ∀ d : Dev nD, k0_off27 d = ![(lft d).val, 2, 0, 0] := by decide +kernel
theorem at28r : ∀ d : Dev nD, k0_off28 d 1#32 = ![(rgt d).val, 2, 0, 0] := by decide +kernel
theorem at28p : ∀ d : Dev nD, k0_off28 d 2#32 = ![(opp d).val, 2, 0, 0] := by decide +kernel
theorem at29 : ∀ d : Dev nD, k0_off29 d = ![d.val, 2, 0, 0] := by decide +kernel
theorem at30 : ∀ d : Dev nD, k0_off30 d = ![d.val, 2, 0, 0] := by decide +kernel
theorem at31 : ∀ d : Dev nD, k0_off31 d = ![(lft d).val, 2, 0, 0] := by decide +kernel
theorem at32r : ∀ d : Dev nD, k0_off32 d 1#32 = ![(rgt d).val, 2, 0, 0] := by decide +kernel
theorem at32p : ∀ d : Dev nD, k0_off32 d 2#32 = ![(opp d).val, 2, 0, 0] := by decide +kernel
theorem at33 : ∀ d : Dev nD, k0_off33 d = ![(lft d).val, 2, 0, 0] := by decide +kernel
theorem at34 : ∀ d : Dev nD, k0_off34 d = ![(lft d).val, 2, 0, 0] := by decide +kernel
theorem at35r : ∀ d : Dev nD, k0_off35 d 1#32 = ![(rgt d).val, 2, 0, 0] := by decide +kernel
theorem at35p : ∀ d : Dev nD, k0_off35 d 2#32 = ![(opp d).val, 2, 0, 0] := by decide +kernel
theorem at36r : ∀ d : Dev nD, k0_off36 d 1#32 = ![(rgt d).val, 2, 0, 0] := by decide +kernel
theorem at36p : ∀ d : Dev nD, k0_off36 d 2#32 = ![(opp d).val, 2, 0, 0] := by decide +kernel

theorem to1 : ∀ d : Dev nD, (⟨k0_dev1 d, k0_dev1_lt d⟩ : Dev nD) = lft d := by decide +kernel
theorem to2 : ∀ d : Dev nD, (⟨k0_dev2 d, k0_dev2_lt d⟩ : Dev nD) = rgt d := by decide +kernel
theorem to3 : ∀ d : Dev nD, (⟨k0_dev3 d, k0_dev3_lt d⟩ : Dev nD) = tgt d 0 := by decide +kernel
theorem to4 : ∀ d : Dev nD, (⟨k0_dev4 d, k0_dev4_lt d⟩ : Dev nD) = tgt d 2 := by decide +kernel
theorem to5 : ∀ d : Dev nD, (⟨k0_dev5 d, k0_dev5_lt d⟩ : Dev nD) = tgt d 1 := by decide +kernel
theorem to6 : ∀ d : Dev nD, (⟨k0_dev6 d, k0_dev6_lt d⟩ : Dev nD) = tgt d 3 := by decide +kernel
theorem to7 : ∀ d : Dev nD, (⟨k0_dev7 d, k0_dev7_lt d⟩ : Dev nD) = tgt d 4 := by decide +kernel
theorem to8 : ∀ d : Dev nD, (⟨k0_dev8 d, k0_dev8_lt d⟩ : Dev nD) = tgt d 5 := by decide +kernel
theorem to9 : ∀ d : Dev nD, (⟨k0_dev9 d, k0_dev9_lt d⟩ : Dev nD) = tgt d 6 := by decide +kernel
theorem to10 : ∀ d : Dev nD, (⟨k0_dev10 d, k0_dev10_lt d⟩ : Dev nD) = tgt d 8 := by decide +kernel
theorem to11 : ∀ d : Dev nD, (⟨k0_dev11 d, k0_dev11_lt d⟩ : Dev nD) = tgt d 7 := by decide +kernel
theorem to12 : ∀ d : Dev nD, (⟨k0_dev12 d, k0_dev12_lt d⟩ : Dev nD) = tgt d 9 := by decide +kernel
theorem to13 : ∀ d : Dev nD, (⟨k0_dev13 d, k0_dev13_lt d⟩ : Dev nD) = tgt d 10 := by decide +kernel
theorem to14 : ∀ d : Dev nD, (⟨k0_dev14 d, k0_dev14_lt d⟩ : Dev nD) = tgt d 11 := by decide +kernel
theorem to15 : ∀ d : Dev nD, (⟨k0_dev15 d, k0_dev15_lt d⟩ : Dev nD) = tgt d 12 := by decide +kernel
theorem to16 : ∀ d : Dev nD, (⟨k0_dev16 d, k0_dev16_lt d⟩ : Dev nD) = tgt d 14 := by decide +kernel
theorem to17 : ∀ d : Dev nD, (⟨k0_dev17 d, k0_dev17_lt d⟩ : Dev nD) = tgt d 13 := by decide +kernel
theorem to18 : ∀ d : Dev nD, (⟨k0_dev18 d, k0_dev18_lt d⟩ : Dev nD) = tgt d 15 := by decide +kernel
theorem to19 : ∀ d : Dev nD, (⟨k0_dev19 d, k0_dev19_lt d⟩ : Dev nD) = tgt d 16 := by decide +kernel
theorem to20 : ∀ d : Dev nD, (⟨k0_dev20 d, k0_dev20_lt d⟩ : Dev nD) = tgt d 17 := by decide +kernel

/-! ## The transfers left after each one -/

abbrev J18 : List (Fin 18) := []
abbrev J17 : List (Fin 18) := 17 :: J18
abbrev J16 : List (Fin 18) := 16 :: J17
abbrev J15 : List (Fin 18) := 15 :: J16
abbrev J14 : List (Fin 18) := 13 :: J15
abbrev J13 : List (Fin 18) := 14 :: J14
abbrev J12 : List (Fin 18) := 12 :: J13
abbrev J11 : List (Fin 18) := 11 :: J12
abbrev J10 : List (Fin 18) := 10 :: J11
abbrev J9 : List (Fin 18) := 9 :: J10
abbrev J8 : List (Fin 18) := 7 :: J9
abbrev J7 : List (Fin 18) := 8 :: J8
abbrev J6 : List (Fin 18) := 6 :: J7
abbrev J5 : List (Fin 18) := 5 :: J6
abbrev J4 : List (Fin 18) := 4 :: J5
abbrev J3 : List (Fin 18) := 3 :: J4
abbrev J2 : List (Fin 18) := 1 :: J3
abbrev J1 : List (Fin 18) := 2 :: J2
abbrev J0 : List (Fin 18) := 0 :: J1
theorem order_eq : order = J0 := rfl

/-! ## The body's operands -/

abbrev aM0 : Memref sig .tc .hbm S512x256 .bf16 := Memref.whole main_arg0
abbrev aM1 : Memref sig .tc .hbm S256x512 .bf16 := Memref.whole main_arg1
abbrev aM2 : Memref sig .tc .hbm S512x256 .bf16 := Memref.whole main_arg2
abbrev aM3 : Memref sig .tc .hbm S256x512 .bf16 := Memref.whole main_arg3
abbrev aM4 : Memref sig .tc .hbm S512x256 .bf16 := Memref.whole main_arg4
abbrev aM5 : Memref sig .tc .hbm S256x512 .bf16 := Memref.whole main_arg5
abbrev aM6 : Memref sig .tc .hbm S512x256 .bf16 := Memref.whole main_arg6
abbrev rM : Memref sig .tc .hbm S512x256 .f32 := Memref.whole main_v1
theorem aH0 : aM0.IsWhole := Memref.isWhole_whole _
theorem aH1 : aM1.IsWhole := Memref.isWhole_whole _
theorem aH2 : aM2.IsWhole := Memref.isWhole_whole _
theorem aH3 : aM3.IsWhole := Memref.isWhole_whole _
theorem aH4 : aM4.IsWhole := Memref.isWhole_whole _
theorem aH5 : aM5.IsWhole := Memref.isWhole_whole _
theorem aH6 : aM6.IsWhole := Memref.isWhole_whole _
theorem rH : rM.IsWhole := Memref.isWhole_whole _
theorem winH : winM.IsWhole := Memref.isWhole_whole _
theorem woutH : woutM.IsWhole := Memref.isWhole_whole _
theorem xstH : xstM.IsWhole := Memref.isWhole_whole _
theorem ostH : ostM.IsWhole := Memref.isWhole_whole _

/-! ## Resources, split as the parts use them -/

variable (c : Dev nD)

/-- A slot of the device's own, once filled: a share for each of the two transfers that read it, one to compute from. -/
theorem slot_three (w : Bool) (o : Dev nD) (l : Fin 3) :
    slot m c w o l fullShare ⊢ iprop(slot m c w o l fullShare.left ∗ slot m c w o l fullShare.right.left ∗ slot m c w o l fullShare.right.right) := by
  rw [slot_split m c w o l fullShare, slot_split m c w o l fullShare.right]
theorem slot_unthree (w : Bool) (o : Dev nD) (l : Fin 3) :
    iprop(slot m c w o l fullShare.left ∗ slot m c w o l fullShare.right.left ∗ slot m c w o l fullShare.right.right) ⊢ slot m c w o l fullShare := by
  rw [slot_split m c w o l fullShare, slot_split m c w o l fullShare.right]
/-- A slot the device forwards: a share for the transfer, one to compute from. -/
theorem slot_two (w : Bool) (o : Dev nD) (l : Fin 3) :
    slot m c w o l fullShare ⊢ iprop(slot m c w o l fullShare.left ∗ slot m c w o l fullShare.right) := by
  rw [slot_split m c w o l fullShare]
theorem slot_untwo (w : Bool) (o : Dev nD) (l : Fin 3) :
    iprop(slot m c w o l fullShare.left ∗ slot m c w o l fullShare.right) ⊢ slot m c w o l fullShare := by
  rw [slot_split m c w o l fullShare]

omit [FloatOps F] in
/-- What the right neighbour's barrier cell lends, and the left neighbour's. -/
theorem barPay_false : (barPay c false : sProp 𝕄) ⊢ iprop(lent c 0 ∗ lent c 1 ∗ lent c 4 ∗ lent c 6 ∗ lent c 7 ∗ lent c 10 ∗ lent c 12 ∗ lent c 13 ∗ lent c 16) :=
  Entails.refl _
omit [FloatOps F] in
theorem barPay_true : (barPay c true : sProp 𝕄) ⊢ iprop(lent c 2 ∗ lent c 3 ∗ lent c 5 ∗ lent c 8 ∗ lent c 9 ∗ lent c 11 ∗ lent c 14 ∗ lent c 15 ∗ lent c 17) :=
  Entails.refl _

end Cert.RingMlp
-- ==== Proof.Parts.lean ====
/-
  What each part of the body does: the resources it consumes on the left of the wands, the ones it leaves on the left of its continuation's.
-/
module

public import proofs.«01_k».proof.Proof.Sites

@[expose] public section

noncomputable section

namespace Cert.RingMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Names) (c : Dev nD)

theorem part2 (v13 v24 : BitVec 32) {Q : _ → sProp 𝕄} :
    env m K ⊢ iprop(ow c (O₀ c) -∗ barTick c -∗ barPay (lft c) false -∗ barPay (rgt c) true -∗ tick c (inS 0) -∗ argPts m c main_arg1 -∗ blank c true c 0 -∗ tick c (inS 1) -∗ argPts m c main_arg2 -∗ blank c false c 0 -∗ tick c (inS 2) -∗ argPts m c main_arg3 -∗ blank c true c 1 -∗ tick c (inS 3) -∗ argPts m c main_arg4 -∗ blank c false c 1 -∗ tick c (inS 4) -∗ argPts m c main_arg5 -∗ blank c true c 2 -∗
      (ow c (owedL c J0) -∗ fly c (inS 0) -∗ fly c (inS 1) -∗ fly c (inS 2) -∗ fly c (inS 3) -∗ fly c (inS 4) -∗ Q (SemArray.scalar (sig.barrier 0 rfl)))
      -∗ WP c (k0_part2 aM0 aH0 aM1 aH1 aM2 aH2 aM3 aH3 aM4 aH4 aM5 aH5 aM6 aH6 rM rH winM winH woutM woutH xstM xstH ostM ostH cc0_scratch4 cc0_scratch5 cc0_scratch6 cc0_scratch7 c v13 v24) Q) := by
  simp only [k0_part2_eq_skeleton]; unfold k0_part2_skel
  simp only [semSignalWord, semWaitWord, Prog.lift, Prog.bind_op, Prog.bind_ret, Prog.pure_eq_ret]
  iintro #He HO HB HGl HGr HI0 HA1 HNW0 HI1 HA2 HNO0 HI2 HA3 HNW1 HI3 HA4 HNO1 HI4 HA5 HNW2 Hk
  unfold barTick
  icases HB with ⟨HB, HB'⟩
  ihave HO := (Entails.of_eq (show ow c (O₀ c) = ow c (O₁ c + tallyAt (cell (lft c) (.reg barS)) () 1) from rfl)) $$ HO
  iapply (step_signal m K c (to1 c) rfl rfl false (O₁ c)) $$ He HB HO HGl
  iintro HO
  ihave HO := (Entails.of_eq (show ow c (O₁ c) = ow c (owedL c J0 + tallyAt (cell (rgt c) (.reg barS)) () 1) from rfl)) $$ HO
  iapply (step_signal m K c (to2 c) rfl rfl true (owedL c J0)) $$ He HB' HO HGr
  iintro HO
  iapply (step_copyW m K c (inS 0) rfl (.inp 0) (kd_in 0) 0 (at1 c) (src := aM1) (A := argPts m c main_arg1) (fs := m ((c : Thread nD τ).loc main_arg1)) rfl (View.read_whole _ _) rfl (View.set_whole _) rfl) $$ He HI0 HA1 HNW0
  iintro HI0
  iapply (step_copyO m K c (inS 1) rfl (.inp 1) (kd_in 1) 0 (at2 c) (src := aM2) (A := argPts m c main_arg2) (fs := m ((c : Thread nD τ).loc main_arg2)) rfl (View.read_whole _ _) rfl (View.set_whole _) rfl) $$ He HI1 HA2 HNO0
  iintro HI1
  iapply (step_copyW m K c (inS 2) rfl (.inp 2) (kd_in 2) 1 (at3 c) (src := aM3) (A := argPts m c main_arg3) (fs := m ((c : Thread nD τ).loc main_arg3)) rfl (View.read_whole _ _) rfl (View.set_whole _) rfl) $$ He HI2 HA3 HNW1
  iintro HI2
  iapply (step_copyO m K c (inS 3) rfl (.inp 3) (kd_in 3) 1 (at4 c) (src := aM4) (A := argPts m c main_arg4) (fs := m ((c : Thread nD τ).loc main_arg4)) rfl (View.read_whole _ _) rfl (View.set_whole _) rfl) $$ He HI3 HA4 HNO1
  iintro HI3
  iapply (step_copyW m K c (inS 4) rfl (.inp 4) (kd_in 4) 2 (at5 c) (src := aM5) (A := argPts m c main_arg5) (fs := m ((c : Thread nD τ).loc main_arg5)) rfl (View.read_whole _ _) rfl (View.set_whole _) rfl) $$ He HI4 HA5 HNW2
  iintro HI4
  iapply (step_ret c)
  iapply Hk $$ HO HI0 HI1 HI2 HI3 HI4

theorem part3 (v13 v24 : BitVec 32)  {Q : _ → sProp 𝕄} :
    env m K ⊢ iprop(tick c (inS 5) -∗ argPts m c main_arg6 -∗ blank c false c 2 -∗ tick c (inS 6) -∗ argPts m c main_arg0 -∗ (∃ f, ((c : Thread nD τ).loc cc0_scratch2) ↦{fullShare} f) -∗ barFly c -∗ ow c (owedL c J0) -∗ fly c (inS 0) -∗ fly c (inS 1) -∗ sTick c 0 -∗
      (fly c (inS 5) -∗ fly c (inS 6) -∗ barShut c -∗ lent c 1 -∗ lent c 2 -∗ lent c 3 -∗ lent c 4 -∗ lent c 5 -∗ lent c 6 -∗ lent c 7 -∗ lent c 8 -∗ lent c 9 -∗ lent c 10 -∗ lent c 11 -∗ lent c 12 -∗ lent c 13 -∗ lent c 14 -∗ lent c 15 -∗ lent c 16 -∗ lent c 17 -∗ shut c (inS 0) -∗ argPts m c main_arg1 -∗ slot m c true c 0 fullShare.right.left -∗ slot m c true c 0 fullShare.right.right -∗ shut c (inS 1) -∗ argPts m c main_arg2 -∗ slot m c false c 0 fullShare.left -∗ slot m c false c 0 fullShare.right.left -∗ slot m c false c 0 fullShare.right.right -∗ fly c (sendS 0) -∗ ow c (owedL c J1) -∗ Q (⟨Scalar.muli v13 1#32, 0#32⟩))
      -∗ WP c (k0_part3 aM0 aH0 aM1 aH1 aM2 aH2 aM3 aH3 aM4 aH4 aM5 aH5 aM6 aH6 rM rH winM winH woutM woutH xstM xstH ostM ostH cc0_scratch4 cc0_scratch5 cc0_scratch6 cc0_scratch7 c v13 v24 (SemArray.scalar (sig.barrier 0 rfl))) Q) := by
  simp only [k0_part3_eq_skeleton]; unfold k0_part3_skel
  simp only [semSignalWord, semWaitWord, Prog.lift, Prog.bind_op, Prog.bind_ret, Prog.pure_eq_ret]
  iintro #He HI5 HA6 HNO2 HI6 HA0 HX HC HO HI0 HI1 HS0 Hk
  iapply (step_copyO m K c (inS 5) rfl (.inp 5) (kd_in 5) 2 (at6 c) (src := aM6) (A := argPts m c main_arg6) (fs := m ((c : Thread nD τ).loc main_arg6)) rfl (View.read_whole _ _) rfl (View.set_whole _) rfl) $$ He HI5 HA6 HNO2
  iintro HI5
  iapply (step_copyX m K c rfl) $$ He HI6 HA0 HX
  iintro HI6
  iapply (step_bar m K c rfl rfl J0 (by decide)) $$ He HC HO
  iintro HC HPf HPt HO
  ihave HPf := (barPay_false c) $$ HPf
  icases HPf with ⟨HL0, HL1, HL4, HL6, HL7, HL10, HL12, HL13, HL16⟩
  ihave HPt := (barPay_true c) $$ HPt
  icases HPt with ⟨HL2, HL3, HL5, HL8, HL9, HL11, HL14, HL15, HL17⟩
  iapply (step_waitW m K c (inS 0) rfl (.inp 0) (kd_in 0) iprop(slot m c true c 0 fullShare ∗ argPts m c main_arg1) rfl J0 (by decide +kernel) rfl) $$ He HI0 HO
  iintro HI0 ⟨HT, HA1⟩ HO
  ihave HT := (slot_three m c true c 0) $$ HT
  icases HT with ⟨HWc0A, HWc0B, HWc0C⟩
  iapply (step_waitO m K c (inS 1) rfl (.inp 1) (kd_in 1) iprop(slot m c false c 0 fullShare ∗ argPts m c main_arg2) rfl J0 (by decide +kernel) rfl) $$ He HI1 HO
  iintro HI1 ⟨HT, HA2⟩ HO
  ihave HT := (slot_three m c false c 0) $$ HT
  icases HT with ⟨HOc0A, HOc0B, HOc0C⟩
  iapply (step_sendW m K c 0 J1 c 0 fullShare.left rfl rfl rfl rfl (to3 c) rfl rfl (at1 c)) $$ He HS0 HO HWc0A HL0
  iintro HS0 HO
  iapply (step_ret c)
  iapply Hk $$ HI5 HI6 HC HL1 HL2 HL3 HL4 HL5 HL6 HL7 HL8 HL9 HL10 HL11 HL12 HL13 HL14 HL15 HL16 HL17 HI0 HA1 HWc0B HWc0C HI1 HA2 HOc0A HOc0B HOc0C HS0 HO

theorem part4 (v13 v24 v85 z : BitVec 32) {Q : _ → sProp 𝕄} :
    env m K ⊢ iprop(sTick c 2 -∗ ow c (owedL c J1) -∗ slot m c false c 0 fullShare.right.left -∗ lent c 2 -∗ sTick c 1 -∗ slot m c false c 0 fullShare.left -∗ lent c 1 -∗ sTick c 3 -∗ slot m c true c 0 fullShare.right.left -∗ lent c 3 -∗ fly c (inS 6) -∗
      (fly c (sendS 2) -∗ fly c (sendS 1) -∗ fly c (sendS 3) -∗ ow c (owedL c J4) -∗ shut c (inS 6) -∗ argPts m c main_arg0 -∗ (((c : Thread nD τ).loc cc0_scratch2) ↦{fullShare} xAt m c) -∗ Q (⟨⟩))
      -∗ WP c (k0_part4 aM0 aH0 aM1 aH1 aM2 aH2 aM3 aH3 aM4 aH4 aM5 aH5 aM6 aH6 rM rH winM winH woutM woutH xstM xstH ostM ostH cc0_scratch4 cc0_scratch5 cc0_scratch6 cc0_scratch7 c v13 v24 v85 z) Q) := by
  simp only [k0_part4_eq_skeleton]; unfold k0_part4_skel
  simp only [semSignalWord, semWaitWord, Prog.lift, Prog.bind_op, Prog.bind_ret, Prog.pure_eq_ret]
  iintro #He HS2 HO HOc0B HL2 HS1 HOc0A HL1 HS3 HWc0B HL3 HI6 Hk
  iapply (step_sendO m K c 2 J2 c 0 fullShare.right.left rfl rfl rfl rfl (to4 c) rfl rfl (at2 c)) $$ He HS2 HO HOc0B HL2
  iintro HS2 HO
  iapply (step_sendO m K c 1 J3 c 0 fullShare.left rfl rfl rfl rfl (to5 c) rfl rfl (at2 c)) $$ He HS1 HO HOc0A HL1
  iintro HS1 HO
  iapply (step_sendW m K c 3 J4 c 0 fullShare.right.left rfl rfl rfl rfl (to6 c) rfl rfl (at1 c)) $$ He HS3 HO HWc0B HL3
  iintro HS3 HO
  iapply (step_wait m K c (inS 6) rfl (.inp 6) (kd_in 6) iprop((((c : Thread nD τ).loc cc0_scratch2) ↦{fullShare} xAt m c) ∗ argPts m c main_arg0) rfl J4 (by decide +kernel) rfl) $$ He HI6 HO
  iintro HI6 ⟨HT, HA0⟩ HO
  irename HT => HX
  iapply (step_ret c)
  iapply Hk $$ HS2 HS1 HS3 HO HI6 HA0 HX

theorem part5 (v13 v24 : BitVec 32) {Q : _ → sProp 𝕄} :
    env m K ⊢ iprop((((c : Thread nD τ).loc cc0_scratch2) ↦{fullShare} xAt m c) -∗ fly c (recvS 0) -∗ ow c (owedL c J4) -∗ sTick c 4 -∗ lent c 4 -∗
      ((((c : Thread nD τ).loc cc0_scratch2) ↦{fullShare} xAt m c) -∗ shut c (recvS 0) -∗ slot m c true (lft c) 0 fullShare.right -∗ fly c (sendS 4) -∗ ow c (owedL c J5) -∗ Q (xAt m c))
      -∗ WP c (k0_part5 aM0 aH0 aM1 aH1 aM2 aH2 aM3 aH3 aM4 aH4 aM5 aH5 aM6 aH6 rM rH winM winH woutM woutH xstM xstH ostM ostH cc0_scratch4 cc0_scratch5 cc0_scratch6 cc0_scratch7 c v13 v24) Q) := by
  simp only [k0_part5_eq_skeleton]; unfold k0_part5_skel
  simp only [semSignalWord, semWaitWord, Prog.lift, Prog.bind_op, Prog.bind_ret, Prog.pure_eq_ret]
  iintro #He HX HR0 HO HS4 HL4 Hk
  iapply (step_loadX c) $$ HX
  iintro HX
  iapply (step_waitW m K c (recvS 0) rfl (.rcv 0) (kd_recv 0) (slot m c true (lft c) 0 fullShare) rfl J4 (by decide +kernel) rfl) $$ He HR0 HO
  iintro HR0 HWl0F HO
  ihave HT := (slot_two m c true (lft c) 0) $$ HWl0F
  icases HT with ⟨HWl0A, HWl0R⟩
  iapply (step_sendW m K c 4 J5 (lft c) 0 fullShare.left rfl rfl rfl rfl (to7 c) rfl rfl (at7 c)) $$ He HS4 HO HWl0A HL4
  iintro HS4 HO
  iapply (step_ret c)
  iapply Hk $$ HX HR0 HWl0R HS4 HO

theorem part6 (v13 v24 : BitVec 32) {Q : _ → sProp 𝕄} :
    env m K ⊢ iprop(fly c (recvS 2) -∗ ow c (owedL c J5) -∗ sTick c 5 -∗ lent c 5 -∗ fly c (inS 2) -∗ fly c (inS 3) -∗
      (shut c (recvS 2) -∗ slot m c false (rgt c) 0 fullShare.right -∗ fly c (sendS 5) -∗ ow c (owedL c J6) -∗ shut c (inS 2) -∗ argPts m c main_arg3 -∗ slot m c true c 1 fullShare.left -∗ slot m c true c 1 fullShare.right.left -∗ slot m c true c 1 fullShare.right.right -∗ shut c (inS 3) -∗ argPts m c main_arg4 -∗ slot m c false c 1 fullShare.left -∗ slot m c false c 1 fullShare.right.left -∗ slot m c false c 1 fullShare.right.right -∗ Q (⟨⟩))
      -∗ WP c (k0_part6 aM0 aH0 aM1 aH1 aM2 aH2 aM3 aH3 aM4 aH4 aM5 aH5 aM6 aH6 rM rH winM winH woutM woutH xstM xstH ostM ostH cc0_scratch4 cc0_scratch5 cc0_scratch6 cc0_scratch7 c v13 v24) Q) := by
  simp only [k0_part6_eq_skeleton]; unfold k0_part6_skel
  simp only [semSignalWord, semWaitWord, Prog.lift, Prog.bind_op, Prog.bind_ret, Prog.pure_eq_ret]
  iintro #He HR2 HO HS5 HL5 HI2 HI3 Hk
  iapply (step_waitO m K c (recvS 2) rfl (.rcv 2) (kd_recv 2) (slot m c false (rgt c) 0 fullShare) rfl J5 (by decide +kernel) rfl) $$ He HR2 HO
  iintro HR2 HOr0F HO
  ihave HT := (slot_two m c false (rgt c) 0) $$ HOr0F
  icases HT with ⟨HOr0A, HOr0R⟩
  iapply (step_sendO m K c 5 J6 (rgt c) 0 fullShare.left rfl rfl rfl rfl (to8 c) rfl rfl (at8r c)) $$ He HS5 HO HOr0A HL5
  iintro HS5 HO
  iapply (step_waitW m K c (inS 2) rfl (.inp 2) (kd_in 2) iprop(slot m c true c 1 fullShare ∗ argPts m c main_arg3) rfl J6 (by decide +kernel) rfl) $$ He HI2 HO
  iintro HI2 ⟨HT, HA3⟩ HO
  ihave HT := (slot_three m c true c 1) $$ HT
  icases HT with ⟨HWc1A, HWc1B, HWc1C⟩
  iapply (step_waitO m K c (inS 3) rfl (.inp 3) (kd_in 3) iprop(slot m c false c 1 fullShare ∗ argPts m c main_arg4) rfl J6 (by decide +kernel) rfl) $$ He HI3 HO
  iintro HI3 ⟨HT, HA4⟩ HO
  ihave HT := (slot_three m c false c 1) $$ HT
  icases HT with ⟨HOc1A, HOc1B, HOc1C⟩
  iapply (step_ret c)
  iapply Hk $$ HR2 HOr0R HS5 HO HI2 HA3 HWc1A HWc1B HWc1C HI3 HA4 HOc1A HOc1B HOc1C

theorem part7 (v13 v24 : BitVec 32) {Q : _ → sProp 𝕄} :
    env m K ⊢ iprop(sTick c 6 -∗ ow c (owedL c J6) -∗ slot m c true c 1 fullShare.left -∗ lent c 6 -∗ sTick c 8 -∗ slot m c false c 1 fullShare.right.left -∗ lent c 8 -∗ sTick c 7 -∗ slot m c false c 1 fullShare.left -∗ lent c 7 -∗
      (fly c (sendS 6) -∗ fly c (sendS 8) -∗ fly c (sendS 7) -∗ ow c (owedL c J9) -∗ Q (⟨⟩))
      -∗ WP c (k0_part7 aM0 aH0 aM1 aH1 aM2 aH2 aM3 aH3 aM4 aH4 aM5 aH5 aM6 aH6 rM rH winM winH woutM woutH xstM xstH ostM ostH cc0_scratch4 cc0_scratch5 cc0_scratch6 cc0_scratch7 c v13 v24) Q) := by
  simp only [k0_part7_eq_skeleton]; unfold k0_part7_skel
  simp only [semSignalWord, semWaitWord, Prog.lift, Prog.bind_op, Prog.bind_ret, Prog.pure_eq_ret]
  iintro #He HS6 HO HWc1A HL6 HS8 HOc1B HL8 HS7 HOc1A HL7 Hk
  iapply (step_sendW m K c 6 J7 c 1 fullShare.left rfl rfl rfl rfl (to9 c) rfl rfl (at3 c)) $$ He HS6 HO HWc1A HL6
  iintro HS6 HO
  iapply (step_sendO m K c 8 J8 c 1 fullShare.right.left rfl rfl rfl rfl (to10 c) rfl rfl (at4 c)) $$ He HS8 HO HOc1B HL8
  iintro HS8 HO
  iapply (step_sendO m K c 7 J9 c 1 fullShare.left rfl rfl rfl rfl (to11 c) rfl rfl (at4 c)) $$ He HS7 HO HOc1A HL7
  iintro HS7 HO
  iapply (step_ret c)
  iapply Hk $$ HS6 HS8 HS7 HO

theorem part8 (v2 v13 v24 : BitVec 32) (x : Vec F S512x256 .bf16) {Q : _ → sProp 𝕄} :
    env m K ⊢ iprop(sTick c 9 -∗ ow c (owedL c J9) -∗ slot m c true c 1 fullShare.right.left -∗ lent c 9 -∗ slot m c true c 0 fullShare.right.right -∗ slot m c false c 0 fullShare.right.right -∗ fly c (recvS 1) -∗
      (fly c (sendS 9) -∗ ow c (owedL c J10) -∗ slot m c true c 0 fullShare.right.right -∗ slot m c false c 0 fullShare.right.right -∗ shut c (recvS 1) -∗ slot m c false (lft c) 0 fullShare -∗ Q (k0_pay1 x (ldW m c 0) (ldO m c 0)))
      -∗ WP c (k0_part8 aM0 aH0 aM1 aH1 aM2 aH2 aM3 aH3 aM4 aH4 aM5 aH5 aM6 aH6 rM rH winM winH woutM woutH xstM xstH ostM ostH cc0_scratch4 cc0_scratch5 cc0_scratch6 cc0_scratch7 c v2 v13 v24 x) Q) := by
  simp only [k0_part8_eq_skeleton]; unfold k0_part8_skel
  simp only [semSignalWord, semWaitWord, Prog.lift, Prog.bind_op, Prog.bind_ret, Prog.pure_eq_ret]
  iintro #He HS9 HO HWc1B HL9 HWc0C HOc0C HR1 Hk
  iapply (step_sendW m K c 9 J10 c 1 fullShare.right.left rfl rfl rfl rfl (to12 c) rfl rfl (at3 c)) $$ He HS9 HO HWc1B HL9
  iintro HS9 HO
  iapply (step_loadW m c c 0 (at9 c)) $$ HWc0C
  iintro HWc0C
  iapply (step_loadO m c c 0 (at10 c)) $$ HOc0C
  iintro HOc0C
  iapply (step_waitO m K c (recvS 1) rfl (.rcv 1) (kd_recv 1) (slot m c false (lft c) 0 fullShare) rfl J10 (by decide +kernel) rfl) $$ He HR1 HO
  iintro HR1 HOl0F HO
  iapply (step_ret c)
  iapply Hk $$ HS9 HO HWc0C HOc0C HR1 HOl0F

theorem part9 (v13 v24 : BitVec 32) (x : Vec F S512x256 .bf16) (a : FVec F S512x256 .f32) {Q : _ → sProp 𝕄} :
    env m K ⊢ iprop(fly c (recvS 3) -∗ ow c (owedL c J10) -∗ slot m c true (lft c) 0 fullShare.right -∗ slot m c false (lft c) 0 fullShare -∗ slot m c false (rgt c) 0 fullShare.right -∗
      (ow c (owedL c J10) -∗ shut c (recvS 3) -∗ slot m c true (rgt c) 0 fullShare -∗ slot m c true (lft c) 0 fullShare.right -∗ slot m c false (lft c) 0 fullShare -∗ slot m c false (rgt c) 0 fullShare.right -∗ Q (k0_pay2 x a (ldW m (lft c) 0) (ldO m (lft c) 0) (ldW m (rgt c) 0) (ldO m (rgt c) 0)))
      -∗ WP c (k0_part9 aM0 aH0 aM1 aH1 aM2 aH2 aM3 aH3 aM4 aH4 aM5 aH5 aM6 aH6 rM rH winM winH woutM woutH xstM xstH ostM ostH cc0_scratch4 cc0_scratch5 cc0_scratch6 cc0_scratch7 c v13 v24 x a) Q) := by
  simp only [k0_part9_eq_skeleton]; unfold k0_part9_skel
  simp only [semSignalWord, semWaitWord, Prog.lift, Prog.bind_op, Prog.bind_ret, Prog.pure_eq_ret]
  iintro #He HR3 HO HWl0R HOl0F HOr0R Hk
  iapply (step_waitW m K c (recvS 3) rfl (.rcv 3) (kd_recv 3) (slot m c true (rgt c) 0 fullShare) rfl J10 (by decide +kernel) rfl) $$ He HR3 HO
  iintro HR3 HWr0F HO
  iapply (step_loadW m c (lft c) 0 (at13 c)) $$ HWl0R
  iintro HWl0R
  iapply (step_loadO m c (lft c) 0 (at14 c)) $$ HOl0F
  iintro HOl0F
  iapply (step_loadW m c (rgt c) 0 (at15r c)) $$ HWr0F
  iintro HWr0F
  iapply (step_loadO m c (rgt c) 0 (at16r c)) $$ HOr0R
  iintro HOr0R
  iapply (step_ret c)
  iapply Hk $$ HO HR3 HWr0F HWl0R HOl0F HOr0R

theorem part10 (v13 v24 v35 : BitVec 32) (x : Vec F S512x256 .bf16) (a : FVec F S512x256 .f32) {Q : _ → sProp 𝕄} :
    env m K ⊢ iprop(fly c (recvS 4) -∗ ow c (owedL c J10) -∗ fly c (recvS 5) -∗
      (ow c (owedL c J10) -∗ shut c (recvS 4) -∗ slot m c true (opp c) 0 fullShare -∗ shut c (recvS 5) -∗ slot m c false (opp c) 0 fullShare -∗ Q (k0_pay3 x a (ldW m (opp c) 0) (ldO m (opp c) 0)))
      -∗ WP c (k0_part10 aM0 aH0 aM1 aH1 aM2 aH2 aM3 aH3 aM4 aH4 aM5 aH5 aM6 aH6 rM rH winM winH woutM woutH xstM xstH ostM ostH cc0_scratch4 cc0_scratch5 cc0_scratch6 cc0_scratch7 c v13 v24 v35 x a) Q) := by
  simp only [k0_part10_eq_skeleton]; unfold k0_part10_skel
  simp only [semSignalWord, semWaitWord, Prog.lift, Prog.bind_op, Prog.bind_ret, Prog.pure_eq_ret]
  iintro #He HR4 HO HR5 Hk
  iapply (step_waitW m K c (recvS 4) rfl (.rcv 4) (kd_recv 4) (slot m c true (opp c) 0 fullShare) rfl J10 (by decide +kernel) rfl) $$ He HR4 HO
  iintro HR4 HWp0F HO
  iapply (step_waitO m K c (recvS 5) rfl (.rcv 5) (kd_recv 5) (slot m c false (opp c) 0 fullShare) rfl J10 (by decide +kernel) rfl) $$ He HR5 HO
  iintro HR5 HOp0F HO
  iapply (step_loadW m c (opp c) 0 (at15p c)) $$ HWp0F
  iintro HWp0F
  iapply (step_loadO m c (opp c) 0 (at16p c)) $$ HOp0F
  iintro HOp0F
  iapply (step_ret c)
  iapply Hk $$ HO HR4 HWp0F HR5 HOp0F

theorem part11 (v13 v24 : BitVec 32) {Q : _ → sProp 𝕄} :
    env m K ⊢ iprop(fly c (recvS 6) -∗ ow c (owedL c J10) -∗ sTick c 10 -∗ lent c 10 -∗ fly c (recvS 8) -∗
      (shut c (recvS 6) -∗ slot m c true (lft c) 1 fullShare.right -∗ fly c (sendS 10) -∗ ow c (owedL c J11) -∗ shut c (recvS 8) -∗ slot m c false (rgt c) 1 fullShare.left -∗ slot m c false (rgt c) 1 fullShare.right -∗ Q (⟨⟩))
      -∗ WP c (k0_part11 aM0 aH0 aM1 aH1 aM2 aH2 aM3 aH3 aM4 aH4 aM5 aH5 aM6 aH6 rM rH winM winH woutM woutH xstM xstH ostM ostH cc0_scratch4 cc0_scratch5 cc0_scratch6 cc0_scratch7 c v13 v24) Q) := by
  simp only [k0_part11_eq_skeleton]; unfold k0_part11_skel
  simp only [semSignalWord, semWaitWord, Prog.lift, Prog.bind_op, Prog.bind_ret, Prog.pure_eq_ret]
  iintro #He HR6 HO HS10 HL10 HR8 Hk
  iapply (step_waitW m K c (recvS 6) rfl (.rcv 6) (kd_recv 6) (slot m c true (lft c) 1 fullShare) rfl J10 (by decide +kernel) rfl) $$ He HR6 HO
  iintro HR6 HWl1F HO
  ihave HT := (slot_two m c true (lft c) 1) $$ HWl1F
  icases HT with ⟨HWl1A, HWl1R⟩
  iapply (step_sendW m K c 10 J11 (lft c) 1 fullShare.left rfl rfl rfl rfl (to13 c) rfl rfl (at17 c)) $$ He HS10 HO HWl1A HL10
  iintro HS10 HO
  iapply (step_waitO m K c (recvS 8) rfl (.rcv 8) (kd_recv 8) (slot m c false (rgt c) 1 fullShare) rfl J11 (by decide +kernel) rfl) $$ He HR8 HO
  iintro HR8 HOr1F HO
  ihave HT := (slot_two m c false (rgt c) 1) $$ HOr1F
  icases HT with ⟨HOr1A, HOr1R⟩
  iapply (step_ret c)
  iapply Hk $$ HR6 HWl1R HS10 HO HR8 HOr1A HOr1R

theorem part12 (v13 v24 : BitVec 32) {Q : _ → sProp 𝕄} :
    env m K ⊢ iprop(sTick c 11 -∗ ow c (owedL c J11) -∗ slot m c false (rgt c) 1 fullShare.left -∗ lent c 11 -∗ fly c (inS 4) -∗ fly c (inS 5) -∗ sTick c 12 -∗ lent c 12 -∗
      (fly c (sendS 11) -∗ shut c (inS 4) -∗ argPts m c main_arg5 -∗ slot m c true c 2 fullShare.right.left -∗ slot m c true c 2 fullShare.right.right -∗ shut c (inS 5) -∗ argPts m c main_arg6 -∗ slot m c false c 2 fullShare.left -∗ slot m c false c 2 fullShare.right.left -∗ slot m c false c 2 fullShare.right.right -∗ fly c (sendS 12) -∗ ow c (owedL c J13) -∗ Q (⟨⟩))
      -∗ WP c (k0_part12 aM0 aH0 aM1 aH1 aM2 aH2 aM3 aH3 aM4 aH4 aM5 aH5 aM6 aH6 rM rH winM winH woutM woutH xstM xstH ostM ostH cc0_scratch4 cc0_scratch5 cc0_scratch6 cc0_scratch7 c v13 v24) Q) := by
  simp only [k0_part12_eq_skeleton]; unfold k0_part12_skel
  simp only [semSignalWord, semWaitWord, Prog.lift, Prog.bind_op, Prog.bind_ret, Prog.pure_eq_ret]
  iintro #He HS11 HO HOr1A HL11 HI4 HI5 HS12 HL12 Hk
  iapply (step_sendO m K c 11 J12 (rgt c) 1 fullShare.left rfl rfl rfl rfl (to14 c) rfl rfl (at18r c)) $$ He HS11 HO HOr1A HL11
  iintro HS11 HO
  iapply (step_waitW m K c (inS 4) rfl (.inp 4) (kd_in 4) iprop(slot m c true c 2 fullShare ∗ argPts m c main_arg5) rfl J12 (by decide +kernel) rfl) $$ He HI4 HO
  iintro HI4 ⟨HT, HA5⟩ HO
  ihave HT := (slot_three m c true c 2) $$ HT
  icases HT with ⟨HWc2A, HWc2B, HWc2C⟩
  iapply (step_waitO m K c (inS 5) rfl (.inp 5) (kd_in 5) iprop(slot m c false c 2 fullShare ∗ argPts m c main_arg6) rfl J12 (by decide +kernel) rfl) $$ He HI5 HO
  iintro HI5 ⟨HT, HA6⟩ HO
  ihave HT := (slot_three m c false c 2) $$ HT
  icases HT with ⟨HOc2A, HOc2B, HOc2C⟩
  iapply (step_sendW m K c 12 J13 c 2 fullShare.left rfl rfl rfl rfl (to15 c) rfl rfl (at5 c)) $$ He HS12 HO HWc2A HL12
  iintro HS12 HO
  iapply (step_ret c)
  iapply Hk $$ HS11 HI4 HA5 HWc2B HWc2C HI5 HA6 HOc2A HOc2B HOc2C HS12 HO

theorem part13 (v2 v13 v24 : BitVec 32) (x : FVec F S512x256 .bf16) {Q : _ → sProp 𝕄} :
    env m K ⊢ iprop(sTick c 14 -∗ ow c (owedL c J13) -∗ slot m c false c 2 fullShare.right.left -∗ lent c 14 -∗ sTick c 13 -∗ slot m c false c 2 fullShare.left -∗ lent c 13 -∗ sTick c 15 -∗ slot m c true c 2 fullShare.right.left -∗ lent c 15 -∗ slot m c true c 1 fullShare.right.right -∗
      (fly c (sendS 14) -∗ fly c (sendS 13) -∗ fly c (sendS 15) -∗ ow c (owedL c J16) -∗ slot m c true c 1 fullShare.right.right -∗ Q (⟨k0_pay4 (F := F), k0_pay5 x (ldW m c 1)⟩))
      -∗ WP c (k0_part13 aM0 aH0 aM1 aH1 aM2 aH2 aM3 aH3 aM4 aH4 aM5 aH5 aM6 aH6 rM rH winM winH woutM woutH xstM xstH ostM ostH cc0_scratch4 cc0_scratch5 cc0_scratch6 cc0_scratch7 c v2 v13 v24 x) Q) := by
  simp only [k0_part13_eq_skeleton]; unfold k0_part13_skel
  simp only [semSignalWord, semWaitWord, Prog.lift, Prog.bind_op, Prog.bind_ret, Prog.pure_eq_ret]
  iintro #He HS14 HO HOc2B HL14 HS13 HOc2A HL13 HS15 HWc2B HL15 HWc1C Hk
  iapply (step_sendO m K c 14 J14 c 2 fullShare.right.left rfl rfl rfl rfl (to16 c) rfl rfl (at6 c)) $$ He HS14 HO HOc2B HL14
  iintro HS14 HO
  iapply (step_sendO m K c 13 J15 c 2 fullShare.left rfl rfl rfl rfl (to17 c) rfl rfl (at6 c)) $$ He HS13 HO HOc2A HL13
  iintro HS13 HO
  iapply (step_sendW m K c 15 J16 c 2 fullShare.right.left rfl rfl rfl rfl (to18 c) rfl rfl (at5 c)) $$ He HS15 HO HWc2B HL15
  iintro HS15 HO
  iapply (step_loadW m c c 1 (at19 c)) $$ HWc1C
  iintro HWc1C
  iapply (step_ret c)
  iapply Hk $$ HS14 HS13 HS15 HO HWc1C

theorem part14 (v2 v13 v24 : BitVec 32) (x : FVec F S512x256 .bf16) (a : FVec F S512x256 .f32) (h : FVec F S512x512 .f32) {Q : _ → sProp 𝕄} :
    env m K ⊢ iprop(slot m c false c 1 fullShare.right.right -∗ fly c (recvS 7) -∗ ow c (owedL c J16) -∗ fly c (recvS 9) -∗ slot m c true (lft c) 1 fullShare.right -∗
      (slot m c false c 1 fullShare.right.right -∗ ow c (owedL c J16) -∗ shut c (recvS 7) -∗ slot m c false (lft c) 1 fullShare -∗ shut c (recvS 9) -∗ slot m c true (rgt c) 1 fullShare -∗ slot m c true (lft c) 1 fullShare.right -∗ Q (⟨k0_pay6 a h (ldO m c 1), k0_pay7 x (ldW m (lft c) 1), Scalar.ofBits .f32 0x00000000#32⟩))
      -∗ WP c (k0_part14 aM0 aH0 aM1 aH1 aM2 aH2 aM3 aH3 aM4 aH4 aM5 aH5 aM6 aH6 rM rH winM winH woutM woutH xstM xstH ostM ostH cc0_scratch4 cc0_scratch5 cc0_scratch6 cc0_scratch7 c v2 v13 v24 x a h) Q) := by
  simp only [k0_part14_eq_skeleton]; unfold k0_part14_skel
  simp only [semSignalWord, semWaitWord, Prog.lift, Prog.bind_op, Prog.bind_ret, Prog.pure_eq_ret]
  iintro #He HOc1C HR7 HO HR9 HWl1R Hk
  iapply (step_loadO m c c 1 (at20 c)) $$ HOc1C
  iintro HOc1C
  iapply (step_waitO m K c (recvS 7) rfl (.rcv 7) (kd_recv 7) (slot m c false (lft c) 1 fullShare) rfl J16 (by decide +kernel) rfl) $$ He HR7 HO
  iintro HR7 HOl1F HO
  iapply (step_waitW m K c (recvS 9) rfl (.rcv 9) (kd_recv 9) (slot m c true (rgt c) 1 fullShare) rfl J16 (by decide +kernel) rfl) $$ He HR9 HO
  iintro HR9 HWr1F HO
  iapply (step_loadW m c (lft c) 1 (at23 c)) $$ HWl1R
  iintro HWl1R
  iapply (step_ret c)
  iapply Hk $$ HOc1C HO HR7 HOl1F HR9 HWr1F HWl1R

theorem part15 (v13 v24 : BitVec 32) (x : FVec F S512x256 .bf16) (a : FVec F S512x256 .f32) (h : FVec F S512x512 .f32) (z : F .f32) {Q : _ → sProp 𝕄} :
    env m K ⊢ iprop(slot m c false (lft c) 1 fullShare -∗ slot m c true (rgt c) 1 fullShare -∗ slot m c false (rgt c) 1 fullShare.right -∗ fly c (recvS 10) -∗ ow c (owedL c J16) -∗
      (slot m c false (lft c) 1 fullShare -∗ slot m c true (rgt c) 1 fullShare -∗ slot m c false (rgt c) 1 fullShare.right -∗ ow c (owedL c J16) -∗ shut c (recvS 10) -∗ slot m c true (opp c) 1 fullShare -∗ Q (k0_pay8 x a h z (ldO m (lft c) 1) (ldW m (rgt c) 1) (ldO m (rgt c) 1)))
      -∗ WP c (k0_part15 aM0 aH0 aM1 aH1 aM2 aH2 aM3 aH3 aM4 aH4 aM5 aH5 aM6 aH6 rM rH winM winH woutM woutH xstM xstH ostM ostH cc0_scratch4 cc0_scratch5 cc0_scratch6 cc0_scratch7 c v13 v24 x a h z) Q) := by
  simp only [k0_part15_eq_skeleton]; unfold k0_part15_skel
  simp only [semSignalWord, semWaitWord, Prog.lift, Prog.bind_op, Prog.bind_ret, Prog.pure_eq_ret]
  iintro #He HOl1F HWr1F HOr1R HR10 HO Hk
  iapply (step_loadO m c (lft c) 1 (at24 c)) $$ HOl1F
  iintro HOl1F
  iapply (step_loadW m c (rgt c) 1 (at25r c)) $$ HWr1F
  iintro HWr1F
  iapply (step_loadO m c (rgt c) 1 (at26r c)) $$ HOr1R
  iintro HOr1R
  iapply (step_waitW m K c (recvS 10) rfl (.rcv 10) (kd_recv 10) (slot m c true (opp c) 1 fullShare) rfl J16 (by decide +kernel) rfl) $$ He HR10 HO
  iintro HR10 HWp1F HO
  iapply (step_ret c)
  iapply Hk $$ HOl1F HWr1F HOr1R HO HR10 HWp1F

theorem part16 (v13 v24 v35 : BitVec 32) (x : FVec F S512x256 .bf16) (a : FVec F S512x256 .f32) {Q : _ → sProp 𝕄} :
    env m K ⊢ iprop(fly c (recvS 11) -∗ ow c (owedL c J16) -∗ slot m c true (opp c) 1 fullShare -∗ fly c (recvS 12) -∗
      (ow c (owedL c J16) -∗ shut c (recvS 11) -∗ slot m c false (opp c) 1 fullShare -∗ slot m c true (opp c) 1 fullShare -∗ shut c (recvS 12) -∗ slot m c true (lft c) 2 fullShare.left -∗ slot m c true (lft c) 2 fullShare.right -∗ Q (k0_pay9 x a (ldW m (opp c) 1) (ldO m (opp c) 1)))
      -∗ WP c (k0_part16 aM0 aH0 aM1 aH1 aM2 aH2 aM3 aH3 aM4 aH4 aM5 aH5 aM6 aH6 rM rH winM winH woutM woutH xstM xstH ostM ostH cc0_scratch4 cc0_scratch5 cc0_scratch6 cc0_scratch7 c v13 v24 v35 x a) Q) := by
  simp only [k0_part16_eq_skeleton]; unfold k0_part16_skel
  simp only [semSignalWord, semWaitWord, Prog.lift, Prog.bind_op, Prog.bind_ret, Prog.pure_eq_ret]
  iintro #He HR11 HO HWp1F HR12 Hk
  iapply (step_waitO m K c (recvS 11) rfl (.rcv 11) (kd_recv 11) (slot m c false (opp c) 1 fullShare) rfl J16 (by decide +kernel) rfl) $$ He HR11 HO
  iintro HR11 HOp1F HO
  iapply (step_loadW m c (opp c) 1 (at25p c)) $$ HWp1F
  iintro HWp1F
  iapply (step_loadO m c (opp c) 1 (at26p c)) $$ HOp1F
  iintro HOp1F
  iapply (step_waitW m K c (recvS 12) rfl (.rcv 12) (kd_recv 12) (slot m c true (lft c) 2 fullShare) rfl J16 (by decide +kernel) rfl) $$ He HR12 HO
  iintro HR12 HWl2F HO
  ihave HT := (slot_two m c true (lft c) 2) $$ HWl2F
  icases HT with ⟨HWl2A, HWl2R⟩
  iapply (step_ret c)
  iapply Hk $$ HO HR11 HOp1F HWp1F HR12 HWl2A HWl2R

theorem part17 (v2 v13 v24 : BitVec 32) {Q : _ → sProp 𝕄} :
    env m K ⊢ iprop(sTick c 16 -∗ ow c (owedL c J16) -∗ slot m c true (lft c) 2 fullShare.left -∗ lent c 16 -∗ fly c (recvS 14) -∗ sTick c 17 -∗ lent c 17 -∗ slot m c true c 2 fullShare.right.right -∗
      (fly c (sendS 16) -∗ shut c (recvS 14) -∗ slot m c false (rgt c) 2 fullShare.right -∗ fly c (sendS 17) -∗ ow c (owedL c J18) -∗ slot m c true c 2 fullShare.right.right -∗ Q (⟨k0_pay10 (F := F), ldW m c 2⟩))
      -∗ WP c (k0_part17 aM0 aH0 aM1 aH1 aM2 aH2 aM3 aH3 aM4 aH4 aM5 aH5 aM6 aH6 rM rH winM winH woutM woutH xstM xstH ostM ostH cc0_scratch4 cc0_scratch5 cc0_scratch6 cc0_scratch7 c v2 v13 v24) Q) := by
  simp only [k0_part17_eq_skeleton]; unfold k0_part17_skel
  simp only [semSignalWord, semWaitWord, Prog.lift, Prog.bind_op, Prog.bind_ret, Prog.pure_eq_ret]
  iintro #He HS16 HO HWl2A HL16 HR14 HS17 HL17 HWc2C Hk
  iapply (step_sendW m K c 16 J17 (lft c) 2 fullShare.left rfl rfl rfl rfl (to19 c) rfl rfl (at27 c)) $$ He HS16 HO HWl2A HL16
  iintro HS16 HO
  iapply (step_waitO m K c (recvS 14) rfl (.rcv 14) (kd_recv 14) (slot m c false (rgt c) 2 fullShare) rfl J17 (by decide +kernel) rfl) $$ He HR14 HO
  iintro HR14 HOr2F HO
  ihave HT := (slot_two m c false (rgt c) 2) $$ HOr2F
  icases HT with ⟨HOr2A, HOr2R⟩
  iapply (step_sendO m K c 17 J18 (rgt c) 2 fullShare.left rfl rfl rfl rfl (to20 c) rfl rfl (at28r c)) $$ He HS17 HO HOr2A HL17
  iintro HS17 HO
  iapply (step_loadW m c c 2 (at29 c)) $$ HWc2C
  iintro HWc2C
  iapply (step_ret c)
  iapply Hk $$ HS16 HR14 HOr2R HS17 HO HWc2C

theorem part18 (v2 v13 v24 : BitVec 32) (x : FVec F S512x256 .bf16) (a : FVec F S512x256 .f32) (w : Vec F S1x1x256x512 .bf16) {Q : _ → sProp 𝕄} :
    env m K ⊢ iprop(slot m c false c 2 fullShare.right.right -∗ fly c (recvS 13) -∗ ow c (owedL c J18) -∗ fly c (recvS 15) -∗ slot m c true (lft c) 2 fullShare.right -∗
      (slot m c false c 2 fullShare.right.right -∗ ow c (owedL c J18) -∗ shut c (recvS 13) -∗ slot m c false (lft c) 2 fullShare -∗ shut c (recvS 15) -∗ slot m c true (rgt c) 2 fullShare -∗ slot m c true (lft c) 2 fullShare.right -∗ Q (⟨k0_pay11 x a w (ldO m c 2), k0_pay12 (ldW m (lft c) 2)⟩))
      -∗ WP c (k0_part18 aM0 aH0 aM1 aH1 aM2 aH2 aM3 aH3 aM4 aH4 aM5 aH5 aM6 aH6 rM rH winM winH woutM woutH xstM xstH ostM ostH cc0_scratch4 cc0_scratch5 cc0_scratch6 cc0_scratch7 c v2 v13 v24 x a w) Q) := by
  simp only [k0_part18_eq_skeleton]; unfold k0_part18_skel
  simp only [semSignalWord, semWaitWord, Prog.lift, Prog.bind_op, Prog.bind_ret, Prog.pure_eq_ret]
  iintro #He HOc2C HR13 HO HR15 HWl2R Hk
  iapply (step_loadO m c c 2 (at30 c)) $$ HOc2C
  iintro HOc2C
  iapply (step_waitO m K c (recvS 13) rfl (.rcv 13) (kd_recv 13) (slot m c false (lft c) 2 fullShare) rfl J18 (by decide +kernel) rfl) $$ He HR13 HO
  iintro HR13 HOl2F HO
  iapply (step_waitW m K c (recvS 15) rfl (.rcv 15) (kd_recv 15) (slot m c true (rgt c) 2 fullShare) rfl J18 (by decide +kernel) rfl) $$ He HR15 HO
  iintro HR15 HWr2F HO
  iapply (step_loadW m c (lft c) 2 (at33 c)) $$ HWl2R
  iintro HWl2R
  iapply (step_ret c)
  iapply Hk $$ HOc2C HO HR13 HOl2F HR15 HWr2F HWl2R

theorem part19 (v13 v24 : BitVec 32) (x : FVec F S512x256 .bf16) (a : FVec F S512x256 .f32) (w : FVec F S256x512 .bf16) {Q : _ → sProp 𝕄} :
    env m K ⊢ iprop(slot m c false (lft c) 2 fullShare -∗ slot m c true (rgt c) 2 fullShare -∗ slot m c false (rgt c) 2 fullShare.right -∗ fly c (recvS 16) -∗ ow c (owedL c J18) -∗
      (slot m c false (lft c) 2 fullShare -∗ slot m c true (rgt c) 2 fullShare -∗ slot m c false (rgt c) 2 fullShare.right -∗ ow c (owedL c J18) -∗ shut c (recvS 16) -∗ slot m c true (opp c) 2 fullShare -∗ Q (⟨k0_pay13 x a w (ldO m (lft c) 2) (ldW m (rgt c) 2) (ldO m (rgt c) 2), 1#32⟩))
      -∗ WP c (k0_part19 aM0 aH0 aM1 aH1 aM2 aH2 aM3 aH3 aM4 aH4 aM5 aH5 aM6 aH6 rM rH winM winH woutM woutH xstM xstH ostM ostH cc0_scratch4 cc0_scratch5 cc0_scratch6 cc0_scratch7 c v13 v24 x a w) Q) := by
  simp only [k0_part19_eq_skeleton]; unfold k0_part19_skel
  simp only [semSignalWord, semWaitWord, Prog.lift, Prog.bind_op, Prog.bind_ret, Prog.pure_eq_ret]
  iintro #He HOl2F HWr2F HOr2R HR16 HO Hk
  iapply (step_loadO m c (lft c) 2 (at34 c)) $$ HOl2F
  iintro HOl2F
  iapply (step_loadW m c (rgt c) 2 (at35r c)) $$ HWr2F
  iintro HWr2F
  iapply (step_loadO m c (rgt c) 2 (at36r c)) $$ HOr2R
  iintro HOr2R
  iapply (step_waitW m K c (recvS 16) rfl (.rcv 16) (kd_recv 16) (slot m c true (opp c) 2 fullShare) rfl J18 (by decide +kernel) rfl) $$ He HR16 HO
  iintro HR16 HWp2F HO
  iapply (step_ret c)
  iapply Hk $$ HOl2F HWr2F HOr2R HO HR16 HWp2F

theorem part20 (v24 v35 : BitVec 32) (one : BitVec 32) (x : FVec F S512x256 .bf16) (a : FVec F S512x256 .f32) (hout : k0_pay14 x a (ldW m (opp c) 2) (ldO m (opp c) 2) = outAt m c) {Q : _ → sProp 𝕄} :
    env m K ⊢ iprop(fly c (recvS 17) -∗ ow c (owedL c J18) -∗ slot m c true (opp c) 2 fullShare -∗ (∃ f, ((c : Thread nD τ).loc cc0_scratch3) ↦{fullShare} f) -∗ (∃ f, ((c : Thread nD τ).loc main_v1) ↦{fullShare} f) -∗ tick c outS -∗ fly c (sendS 0) -∗
      (ow c (owedL c J18) -∗ shut c (recvS 17) -∗ slot m c false (opp c) 2 fullShare -∗ slot m c true (opp c) 2 fullShare -∗ fly c outS -∗ shut c (sendS 0) -∗ slot m c true c 0 fullShare.left -∗ Q (⟨⟩))
      -∗ WP c (k0_part20 aM0 aH0 aM1 aH1 aM2 aH2 aM3 aH3 aM4 aH4 aM5 aH5 aM6 aH6 rM rH winM winH woutM woutH xstM xstH ostM ostH cc0_scratch4 cc0_scratch5 cc0_scratch6 cc0_scratch7 c v24 v35 x a one) Q) := by
  simp only [k0_part20_eq_skeleton]; unfold k0_part20_skel
  simp only [semSignalWord, semWaitWord, Prog.lift, Prog.bind_op, Prog.bind_ret, Prog.pure_eq_ret]
  iintro #He HR17 HO HWp2F HY HD HZ HS0 Hk
  iapply (step_waitO m K c (recvS 17) rfl (.rcv 17) (kd_recv 17) (slot m c false (opp c) 2 fullShare) rfl J18 (by decide +kernel) rfl) $$ He HR17 HO
  iintro HR17 HOp2F HO
  iapply (step_loadW m c (opp c) 2 (at35p c)) $$ HWp2F
  iintro HWp2F
  iapply (step_loadO m c (opp c) 2 (at36p c)) $$ HOp2F
  iintro HOp2F
  icases HY with ⟨%fy, HY⟩
  iapply (step_loadY c) $$ HY
  iintro HY
  iapply (step_storeY c) $$ HY
  iintro HY
  rw [hout]
  iapply (step_copyY m K c rfl) $$ He HZ HY HD
  iintro HZ
  iapply (step_waitW m K c (sendS 0) rfl (.snd 0) (kd_send 0) (slot m c true c 0 fullShare.left) rfl J18 (by decide) rfl) $$ He HS0 HO
  iintro HS0 HWc0A HO
  iapply (step_ret c)
  iapply Hk $$ HO HR17 HOp2F HWp2F HZ HS0 HWc0A

theorem part21 {Q : _ → sProp 𝕄} :
    env m K ⊢ iprop(fly c (sendS 2) -∗ ow c (owedL c J18) -∗ fly c (sendS 1) -∗ fly c (sendS 3) -∗
      (ow c (owedL c J18) -∗ shut c (sendS 2) -∗ slot m c false c 0 fullShare.right.left -∗ shut c (sendS 1) -∗ slot m c false c 0 fullShare.left -∗ shut c (sendS 3) -∗ slot m c true c 0 fullShare.right.left -∗ Q (⟨⟩))
      -∗ WP c (k0_part21 aM0 aH0 aM1 aH1 aM2 aH2 aM3 aH3 aM4 aH4 aM5 aH5 aM6 aH6 rM rH winM winH woutM woutH xstM xstH ostM ostH cc0_scratch4 cc0_scratch5 cc0_scratch6 cc0_scratch7 c) Q) := by
  simp only [k0_part21_eq_skeleton]; unfold k0_part21_skel
  simp only [semSignalWord, semWaitWord, Prog.lift, Prog.bind_op, Prog.bind_ret, Prog.pure_eq_ret]
  iintro #He HS2 HO HS1 HS3 Hk
  iapply (step_waitO m K c (sendS 2) rfl (.snd 2) (kd_send 2) (slot m c false c 0 fullShare.right.left) rfl J18 (by decide) rfl) $$ He HS2 HO
  iintro HS2 HOc0B HO
  iapply (step_waitO m K c (sendS 1) rfl (.snd 1) (kd_send 1) (slot m c false c 0 fullShare.left) rfl J18 (by decide) rfl) $$ He HS1 HO
  iintro HS1 HOc0A HO
  iapply (step_waitW m K c (sendS 3) rfl (.snd 3) (kd_send 3) (slot m c true c 0 fullShare.right.left) rfl J18 (by decide) rfl) $$ He HS3 HO
  iintro HS3 HWc0B HO
  iapply (step_ret c)
  iapply Hk $$ HO HS2 HOc0B HS1 HOc0A HS3 HWc0B

theorem part22 {Q : _ → sProp 𝕄} :
    env m K ⊢ iprop(fly c (sendS 4) -∗ ow c (owedL c J18) -∗ fly c (sendS 5) -∗ fly c (sendS 6) -∗ fly c (sendS 8) -∗
      (ow c (owedL c J18) -∗ shut c (sendS 4) -∗ slot m c true (lft c) 0 fullShare.left -∗ shut c (sendS 5) -∗ slot m c false (rgt c) 0 fullShare.left -∗ shut c (sendS 6) -∗ slot m c true c 1 fullShare.left -∗ shut c (sendS 8) -∗ slot m c false c 1 fullShare.right.left -∗ Q (⟨⟩))
      -∗ WP c (k0_part22 aM0 aH0 aM1 aH1 aM2 aH2 aM3 aH3 aM4 aH4 aM5 aH5 aM6 aH6 rM rH winM winH woutM woutH xstM xstH ostM ostH cc0_scratch4 cc0_scratch5 cc0_scratch6 cc0_scratch7 c) Q) := by
  simp only [k0_part22_eq_skeleton]; unfold k0_part22_skel
  simp only [semSignalWord, semWaitWord, Prog.lift, Prog.bind_op, Prog.bind_ret, Prog.pure_eq_ret]
  iintro #He HS4 HO HS5 HS6 HS8 Hk
  iapply (step_waitW m K c (sendS 4) rfl (.snd 4) (kd_send 4) (slot m c true (lft c) 0 fullShare.left) rfl J18 (by decide) rfl) $$ He HS4 HO
  iintro HS4 HWl0A HO
  iapply (step_waitO m K c (sendS 5) rfl (.snd 5) (kd_send 5) (slot m c false (rgt c) 0 fullShare.left) rfl J18 (by decide) rfl) $$ He HS5 HO
  iintro HS5 HOr0A HO
  iapply (step_waitW m K c (sendS 6) rfl (.snd 6) (kd_send 6) (slot m c true c 1 fullShare.left) rfl J18 (by decide) rfl) $$ He HS6 HO
  iintro HS6 HWc1A HO
  iapply (step_waitO m K c (sendS 8) rfl (.snd 8) (kd_send 8) (slot m c false c 1 fullShare.right.left) rfl J18 (by decide) rfl) $$ He HS8 HO
  iintro HS8 HOc1B HO
  iapply (step_ret c)
  iapply Hk $$ HO HS4 HWl0A HS5 HOr0A HS6 HWc1A HS8 HOc1B

theorem part23 {Q : _ → sProp 𝕄} :
    env m K ⊢ iprop(fly c (sendS 7) -∗ ow c (owedL c J18) -∗ fly c (sendS 9) -∗ fly c (sendS 10) -∗ fly c (sendS 11) -∗
      (ow c (owedL c J18) -∗ shut c (sendS 7) -∗ slot m c false c 1 fullShare.left -∗ shut c (sendS 9) -∗ slot m c true c 1 fullShare.right.left -∗ shut c (sendS 10) -∗ slot m c true (lft c) 1 fullShare.left -∗ shut c (sendS 11) -∗ slot m c false (rgt c) 1 fullShare.left -∗ Q (⟨⟩))
      -∗ WP c (k0_part23 aM0 aH0 aM1 aH1 aM2 aH2 aM3 aH3 aM4 aH4 aM5 aH5 aM6 aH6 rM rH winM winH woutM woutH xstM xstH ostM ostH cc0_scratch4 cc0_scratch5 cc0_scratch6 cc0_scratch7 c) Q) := by
  simp only [k0_part23_eq_skeleton]; unfold k0_part23_skel
  simp only [semSignalWord, semWaitWord, Prog.lift, Prog.bind_op, Prog.bind_ret, Prog.pure_eq_ret]
  iintro #He HS7 HO HS9 HS10 HS11 Hk
  iapply (step_waitO m K c (sendS 7) rfl (.snd 7) (kd_send 7) (slot m c false c 1 fullShare.left) rfl J18 (by decide) rfl) $$ He HS7 HO
  iintro HS7 HOc1A HO
  iapply (step_waitW m K c (sendS 9) rfl (.snd 9) (kd_send 9) (slot m c true c 1 fullShare.right.left) rfl J18 (by decide) rfl) $$ He HS9 HO
  iintro HS9 HWc1B HO
  iapply (step_waitW m K c (sendS 10) rfl (.snd 10) (kd_send 10) (slot m c true (lft c) 1 fullShare.left) rfl J18 (by decide) rfl) $$ He HS10 HO
  iintro HS10 HWl1A HO
  iapply (step_waitO m K c (sendS 11) rfl (.snd 11) (kd_send 11) (slot m c false (rgt c) 1 fullShare.left) rfl J18 (by decide) rfl) $$ He HS11 HO
  iintro HS11 HOr1A HO
  iapply (step_ret c)
  iapply Hk $$ HO HS7 HOc1A HS9 HWc1B HS10 HWl1A HS11 HOr1A

theorem part24 {Q : _ → sProp 𝕄} :
    env m K ⊢ iprop(fly c (sendS 12) -∗ ow c (owedL c J18) -∗ fly c (sendS 14) -∗ fly c (sendS 13) -∗ fly c (sendS 15) -∗
      (ow c (owedL c J18) -∗ shut c (sendS 12) -∗ slot m c true c 2 fullShare.left -∗ shut c (sendS 14) -∗ slot m c false c 2 fullShare.right.left -∗ shut c (sendS 13) -∗ slot m c false c 2 fullShare.left -∗ shut c (sendS 15) -∗ slot m c true c 2 fullShare.right.left -∗ Q (⟨⟩))
      -∗ WP c (k0_part24 aM0 aH0 aM1 aH1 aM2 aH2 aM3 aH3 aM4 aH4 aM5 aH5 aM6 aH6 rM rH winM winH woutM woutH xstM xstH ostM ostH cc0_scratch4 cc0_scratch5 cc0_scratch6 cc0_scratch7 c) Q) := by
  simp only [k0_part24_eq_skeleton]; unfold k0_part24_skel
  simp only [semSignalWord, semWaitWord, Prog.lift, Prog.bind_op, Prog.bind_ret, Prog.pure_eq_ret]
  iintro #He HS12 HO HS14 HS13 HS15 Hk
  iapply (step_waitW m K c (sendS 12) rfl (.snd 12) (kd_send 12) (slot m c true c 2 fullShare.left) rfl J18 (by decide) rfl) $$ He HS12 HO
  iintro HS12 HWc2A HO
  iapply (step_waitO m K c (sendS 14) rfl (.snd 14) (kd_send 14) (slot m c false c 2 fullShare.right.left) rfl J18 (by decide) rfl) $$ He HS14 HO
  iintro HS14 HOc2B HO
  iapply (step_waitO m K c (sendS 13) rfl (.snd 13) (kd_send 13) (slot m c false c 2 fullShare.left) rfl J18 (by decide) rfl) $$ He HS13 HO
  iintro HS13 HOc2A HO
  iapply (step_waitW m K c (sendS 15) rfl (.snd 15) (kd_send 15) (slot m c true c 2 fullShare.right.left) rfl J18 (by decide) rfl) $$ He HS15 HO
  iintro HS15 HWc2B HO
  iapply (step_ret c)
  iapply Hk $$ HO HS12 HWc2A HS14 HOc2B HS13 HOc2A HS15 HWc2B

end Cert.RingMlp
-- ==== Proof.Body.lean ====
/-
  The body as a whole: the parts run one after another on a device's resources, from the ones a launch hands it to the ones it leaves.
-/
module

public import Idealize.ShloMosaic.Lib.Pipeline.BigSepL
public import proofs.«01_k».proof.Proof.Parts

@[expose] public section

noncomputable section

namespace Cert.RingMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Names) (c : Dev nD)

/-! ## Families over the ring, the layers and the DMA cells -/

omit [FloatOps F] in
theorem ring4 (Φ : Dev nD → sProp 𝕄) : bigSep Finset.univ Φ = iprop(Φ c ∗ Φ (lft c) ∗ Φ (rgt c) ∗ Φ (opp c)) :=
  bigSep_univ_eq_bigSepL [c, lft c, rgt c, opp c] (by revert c; decide) (by revert c; decide) Φ
omit [FloatOps F] in
theorem layers3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem twelve (Φ : Dev nD × Fin 3 → sProp 𝕄) : bigSep Finset.univ Φ = iprop((Φ (c, 0) ∗ Φ (c, 1) ∗ Φ (c, 2)) ∗ (Φ (lft c, 0) ∗ Φ (lft c, 1) ∗ Φ (lft c, 2)) ∗ (Φ (rgt c, 0) ∗ Φ (rgt c, 1) ∗ Φ (rgt c, 2)) ∗ (Φ (opp c, 0) ∗ Φ (opp c, 1) ∗ Φ (opp c, 2)) ) := by
  rw [bigSep_univ_prod, ring4 c]; simp only [layers3]
omit [FloatOps F] in
theorem each7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem each18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ
omit [FloatOps F] in
theorem dma_split (P : DmaSem sig → sProp 𝕄) : bigSep Finset.univ P
    = iprop((bigSep Finset.univ fun j : Fin 18 => P (sendS j)) ∗ (bigSep Finset.univ fun j : Fin 18 => P (recvS j)) ∗ (bigSep Finset.univ fun i : Fin 7 => P (inS i)) ∗ P outS) := by
  rw [bigSep_univ_eq_bigSepL ((List.finRange 18).map sendS ++ ((List.finRange 18).map recvS ++ ((List.finRange 7).map inS ++ [outS]))) (by decide) (by decide),
    bigSepL_append, bigSepL_append, bigSepL_append, bigSepL_map, bigSepL_map, bigSepL_map, bigSepL_singleton,
    ← bigSep_univ_eq_bigSepL (List.finRange 18) (by decide) (by decide) fun j => P (sendS j),
    ← bigSep_univ_eq_bigSepL (List.finRange 18) (by decide) (by decide) fun j => P (recvS j),
    ← bigSep_univ_eq_bigSepL (List.finRange 7) (by decide) (by decide) fun i => P (inS i)]

/-! ## What a device starts with and ends with -/

/-- Its cells unraised, the credit for what will land in them, what it owes. -/
def seeds : sProp 𝕄 :=
  iprop(ow c (O₀ c) ∗ barTick c ∗ barFly c ∗ (bigSep Finset.univ fun j : Fin 18 => sTick c j) ∗ (bigSep Finset.univ fun j : Fin 18 => fly c (recvS j))
    ∗ (bigSep Finset.univ fun i : Fin 7 => tick c (inS i)) ∗ tick c outS)
/-- Every cell closed at zero, nothing owed. -/
def closed : sProp 𝕄 := iprop(ow c 0 ∗ barShut c ∗ bigSep Finset.univ fun q : DmaSem sig => shut c q)
def allArgs : sProp 𝕄 := iprop(argPts m c main_arg0 ∗ argPts m c main_arg1 ∗ argPts m c main_arg2 ∗ argPts m c main_arg3 ∗ argPts m c main_arg4 ∗ argPts m c main_arg5 ∗ argPts m c main_arg6)
abbrev anyPts (b : Ref sig .tc) : sProp 𝕄 := iprop(∃ f, ((c : Thread nD τ).loc b) ↦{fullShare} f)
/-- The buffers before the body, and after it. -/
def room : sProp 𝕄 := iprop(anyPts c cc0_scratch0 ∗ anyPts c cc0_scratch1 ∗ anyPts c cc0_scratch2 ∗ anyPts c cc0_scratch3 ∗ anyPts c main_v1)
def filled : sProp 𝕄 :=
  iprop((((c : Thread nD τ).loc cc0_scratch0) ↦{fullShare} gW m) ∗ (((c : Thread nD τ).loc cc0_scratch1) ↦{fullShare} gO m)
    ∗ (((c : Thread nD τ).loc cc0_scratch2) ↦{fullShare} xAt m c) ∗ (((c : Thread nD τ).loc cc0_scratch3) ↦{fullShare} outAt m c)
    ∗ ((c : Thread nD τ).loc main_v1) ↦{fullShare} outAt m c)

theorem lent_left (j : Fin 18) (h : toR j = true) : (lent (lft c) j : sProp 𝕄) = blank c (isW j) (dstO c j) (lOf j) := by
  unfold lent
  rw [show tgt (lft c) j = c from by unfold tgt; rw [h]; exact rgt_lft c, show srcO (lft c) j = dstO c j from by
    revert c; revert j; decide]
theorem lent_right (j : Fin 18) (h : toR j = false) : (lent (rgt c) j : sProp 𝕄) = blank c (isW j) (dstO c j) (lOf j) := by
  unfold lent
  rw [show tgt (rgt c) j = c from by unfold tgt; rw [h]; exact lft_rgt c, show srcO (rgt c) j = dstO c j from by
    revert c; revert j; decide]

/-- The two weight buffers cut: the device's own blank slots, and the ones it lends each neighbour. -/
theorem cut : iprop(anyPts c cc0_scratch0 ∗ anyPts c cc0_scratch1) ⊢ (iprop(blank c true c 0 ∗ blank c true c 1 ∗ blank c true c 2
    ∗ blank c false c 0 ∗ blank c false c 1 ∗ blank c false c 2 ∗ barPay (lft c) false ∗ barPay (rgt c) true) : sProp 𝕄) := by
  iintro ⟨⟨%f, Hw⟩, ⟨%g, Ho⟩⟩
  ihave Hw := (blanks_cut c f) $$ Hw
  ihave Ho := (oblanks_cut c g) $$ Ho
  ihave Hw := (Entails.of_eq (twelve c (fun p : Dev nD × Fin 3 => blank (F := F) c true p.1 p.2))) $$ Hw
  ihave Ho := (Entails.of_eq (twelve c (fun p : Dev nD × Fin 3 => blank (F := F) c false p.1 p.2))) $$ Ho
  icases Hw with ⟨⟨Wc0, Wc1, Wc2⟩, ⟨Wl0, Wl1, Wl2⟩, ⟨Wr0, Wr1, Wr2⟩, Wp0, Wp1, Wp2⟩
  icases Ho with ⟨⟨Oc0, Oc1, Oc2⟩, ⟨Ol0, Ol1, Ol2⟩, ⟨Or0, Or1, Or2⟩, Op0, Op1, Op2⟩
  unfold barPay
  dsimp only
  rw [lent_left c 0 rfl, lent_left c 1 rfl, lent_right c 2 rfl, lent_right c 3 rfl, lent_left c 4 rfl, lent_right c 5 rfl, lent_left c 6 rfl, lent_left c 7 rfl, lent_right c 8 rfl, lent_right c 9 rfl, lent_left c 10 rfl, lent_right c 11 rfl, lent_left c 12 rfl, lent_left c 13 rfl, lent_right c 14 rfl, lent_right c 15 rfl, lent_left c 16 rfl, lent_right c 17 rfl]
  isplitl [Wc0]; · iexact Wc0
  isplitl [Wc1]; · iexact Wc1
  isplitl [Wc2]; · iexact Wc2
  isplitl [Oc0]; · iexact Oc0
  isplitl [Oc1]; · iexact Oc1
  isplitl [Oc2]; · iexact Oc2
  isplitl [Wl0 Ol0 Wp0 Wl1 Ol1 Wp1 Wl2 Ol2 Wp2]
  · isplitl [Wl0]; · iexact Wl0
    isplitl [Ol0]; · iexact Ol0
    isplitl [Wp0]; · iexact Wp0
    isplitl [Wl1]; · iexact Wl1
    isplitl [Ol1]; · iexact Ol1
    isplitl [Wp1]; · iexact Wp1
    isplitl [Wl2]; · iexact Wl2
    isplitl [Ol2]; · iexact Ol2
    iexact Wp2
  isplitl [Or0]; · iexact Or0
  isplitl [Wr0]; · iexact Wr0
  isplitl [Op0]; · iexact Op0
  isplitl [Or1]; · iexact Or1
  isplitl [Wr1]; · iexact Wr1
  isplitl [Op1]; · iexact Op1
  isplitl [Or2]; · iexact Or2
  isplitl [Wr2]; · iexact Wr2
  iexact Op2

/-- The shares of an own slot back from its two transfers, and of a forwarded slot from its one. -/
theorem own_back (w : Bool) (o : Dev nD) (l : Fin 3) :
    slot m c w o l fullShare.left ⊢ iprop(slot m c w o l fullShare.right.left -∗ slot m c w o l fullShare.right.right -∗ slot m c w o l fullShare) := by
  iintro H1 H2 H3
  iapply (slot_unthree m c w o l)
  isplitl [H1]; · iexact H1
  isplitl [H2] <;> iassumption
theorem fwd_back (w : Bool) (o : Dev nD) (l : Fin 3) :
    slot m c w o l fullShare.left ⊢ iprop(slot m c w o l fullShare.right -∗ slot m c w o l fullShare) := by
  iintro H1 H2
  iapply (slot_untwo m c w o l)
  isplitl [H1] <;> iassumption

/-- All twelve slots of a family full are the buffer filled. -/
theorem gatherW : slot m c true c 0 fullShare ⊢ iprop(slot m c true c 1 fullShare -∗ slot m c true c 2 fullShare -∗ slot m c true (lft c) 0 fullShare -∗ slot m c true (lft c) 1 fullShare -∗ slot m c true (lft c) 2 fullShare -∗ slot m c true (rgt c) 0 fullShare -∗ slot m c true (rgt c) 1 fullShare -∗ slot m c true (rgt c) 2 fullShare -∗ slot m c true (opp c) 0 fullShare -∗ slot m c true (opp c) 1 fullShare -∗ slot m c true (opp c) 2 fullShare -∗ ((c : Thread nD τ).loc cc0_scratch0) ↦{fullShare} gW m) := by
  iintro Xc0 Xc1 Xc2 Xl0 Xl1 Xl2 Xr0 Xr1 Xr2 Xp0 Xp1 Xp2
  rw [← slots_join m c, twelve c]
  isplitl [Xc0 Xc1 Xc2]
  · isplitl [Xc0]; · iexact Xc0
    isplitl [Xc1]; · iexact Xc1
    iexact Xc2
  isplitl [Xl0 Xl1 Xl2]
  · isplitl [Xl0]; · iexact Xl0
    isplitl [Xl1]; · iexact Xl1
    iexact Xl2
  isplitl [Xr0 Xr1 Xr2]
  · isplitl [Xr0]; · iexact Xr0
    isplitl [Xr1]; · iexact Xr1
    iexact Xr2
  isplitl [Xp0]; · iexact Xp0
  isplitl [Xp1]; · iexact Xp1
  iexact Xp2
theorem gatherO : slot m c false c 0 fullShare ⊢ iprop(slot m c false c 1 fullShare -∗ slot m c false c 2 fullShare -∗ slot m c false (lft c) 0 fullShare -∗ slot m c false (lft c) 1 fullShare -∗ slot m c false (lft c) 2 fullShare -∗ slot m c false (rgt c) 0 fullShare -∗ slot m c false (rgt c) 1 fullShare -∗ slot m c false (rgt c) 2 fullShare -∗ slot m c false (opp c) 0 fullShare -∗ slot m c false (opp c) 1 fullShare -∗ slot m c false (opp c) 2 fullShare -∗ ((c : Thread nD τ).loc cc0_scratch1) ↦{fullShare} gO m) := by
  iintro Xc0 Xc1 Xc2 Xl0 Xl1 Xl2 Xr0 Xr1 Xr2 Xp0 Xp1 Xp2
  rw [← oslots_join m c, twelve c]
  isplitl [Xc0 Xc1 Xc2]
  · isplitl [Xc0]; · iexact Xc0
    isplitl [Xc1]; · iexact Xc1
    iexact Xc2
  isplitl [Xl0 Xl1 Xl2]
  · isplitl [Xl0]; · iexact Xl0
    isplitl [Xl1]; · iexact Xl1
    iexact Xl2
  isplitl [Xr0 Xr1 Xr2]
  · isplitl [Xr0]; · iexact Xr0
    isplitl [Xr1]; · iexact Xr1
    iexact Xr2
  isplitl [Xp0]; · iexact Xp0
  isplitl [Xp1]; · iexact Xp1
  iexact Xp2

/-! ## The body -/

theorem step_bind {α β : Type} {p : Prog (TpuEff nD τ sig (Elt F) Λ₀ .tc) β} {k : β → Prog (TpuEff nD τ sig (Elt F) Λ₀ .tc) α} {Q : α → sProp 𝕄} :
    WP c p (fun x => WP c (k x) Q) ⊢ WP c (p >>= k) Q := Entails.of_eq (wp_bind _ _ _ _ _ _).symm

theorem step_lift {α β : Type} {e : TpuEff nD τ sig (Elt F) Λ₀ .tc β} {k : β → Prog (TpuEff nD τ sig (Elt F) Λ₀ .tc) α} {Q : α → sProp 𝕄} :
    WP c (.op e k) Q ⊢ WP c (Prog.lift e >>= k) Q := by
  simp only [Prog.lift, Prog.bind_op, Prog.bind_ret]; exact Entails.refl _
theorem step_pure {α : Type} {Q : α → sProp 𝕄} (a : α) : Q a ⊢ WP c (pure a) Q := step_ret c a

theorem part1 {Q : _ → sProp 𝕄} : iprop(∀ v2, ∀ v13, ∀ v24, ∀ v35, Q ⟨c, v2, v13, v24, v35⟩) ⊢ WP c (k0_part1 (F := F) aM0 aH0 aM1 aH1 aM2 aH2 aM3 aH3 aM4 aH4 aM5 aH5 aM6 aH6 rM rH winM winH woutM woutH xstM xstH ostM ostH cc0_scratch4 cc0_scratch5 cc0_scratch6 cc0_scratch7) Q := by
  simp only [k0_part1_eq_skeleton]; unfold k0_part1_skel
  simp only [Prog.lift, Prog.bind_op, Prog.bind_ret, Prog.pure_eq_ret, wp_deviceId]
  iintro H
  iapply (step_ret c)
  iapply H

set_option maxHeartbeats 4000000 in
theorem body_run {Q : PUnit → sProp 𝕄} :
    env m K ⊢ iprop(seeds c -∗ allArgs m c -∗ room c -∗ (closed c -∗ allArgs m c -∗ filled m c -∗ Q ⟨⟩) -∗ WP c (cc0_body aM0 aH0 aM1 aH1 aM2 aH2 aM3 aH3 aM4 aH4 aM5 aH5 aM6 aH6 rM rH winM winH woutM woutH xstM xstH ostM ostH cc0_scratch4 cc0_scratch5 cc0_scratch6 cc0_scratch7) Q) := by
  simp only [cc0_body_eq_skeleton]; unfold cc0_body_skel
  iintro #He Hseeds Hargs Hroom Hk
  unfold seeds allArgs room
  icases Hseeds with ⟨HO, HB, HC, HSs, HRs, HIs, HZ⟩
  ihave HSs := (Entails.of_eq (each18 fun j : Fin 18 => sTick (F := F) c j)) $$ HSs
  ihave HRs := (Entails.of_eq (each18 fun j : Fin 18 => fly (F := F) c (recvS j))) $$ HRs
  ihave HIs := (Entails.of_eq (each7 fun i : Fin 7 => tick (F := F) c (inS i))) $$ HIs
  icases HSs with ⟨HS0, HS1, HS2, HS3, HS4, HS5, HS6, HS7, HS8, HS9, HS10, HS11, HS12, HS13, HS14, HS15, HS16, HS17⟩
  icases HRs with ⟨HR0, HR1, HR2, HR3, HR4, HR5, HR6, HR7, HR8, HR9, HR10, HR11, HR12, HR13, HR14, HR15, HR16, HR17⟩
  icases HIs with ⟨HI0, HI1, HI2, HI3, HI4, HI5, HI6⟩
  icases Hargs with ⟨HA0, HA1, HA2, HA3, HA4, HA5, HA6⟩
  icases Hroom with ⟨Hsw, Hso, HX, HY, HD⟩
  ihave Hcut := (cut c) $$ [Hsw Hso]
  · isplitl [Hsw] <;> iassumption
  icases Hcut with ⟨HNW0, HNW1, HNW2, HNO0, HNO1, HNO2, HGl, HGr⟩
  iapply (step_bind c)
  iapply (part1 c)
  iintro %v2 %v13 %v24 %v35
  iapply (step_bind c)
  iapply (part2 m K c v13 v24) $$ He HO HB HGl HGr HI0 HA1 HNW0 HI1 HA2 HNO0 HI2 HA3 HNW1 HI3 HA4 HNO1 HI4 HA5 HNW2
  iintro HO HI0 HI1 HI2 HI3 HI4
  iapply (step_bind c)
  iapply (part3 m K c v13 v24) $$ He HI5 HA6 HNO2 HI6 HA0 HX HC HO HI0 HI1 HS0
  iintro HI5 HI6 HC HL1 HL2 HL3 HL4 HL5 HL6 HL7 HL8 HL9 HL10 HL11 HL12 HL13 HL14 HL15 HL16 HL17 HI0 HA1 HWc0B HWc0C HI1 HA2 HOc0A HOc0B HOc0C HS0 HO
  iapply (step_bind c)
  iapply (part4 m K c v13 v24 _ _) $$ He HS2 HO HOc0B HL2 HS1 HOc0A HL1 HS3 HWc0B HL3 HI6
  iintro HS2 HS1 HS3 HO HI6 HA0 HX
  iapply (step_bind c)
  iapply (part5 m K c v13 v24) $$ He HX HR0 HO HS4 HL4
  iintro HX HR0 HWl0R HS4 HO
  iapply (step_bind c)
  iapply (part6 m K c v13 v24) $$ He HR2 HO HS5 HL5 HI2 HI3
  iintro HR2 HOr0R HS5 HO HI2 HA3 HWc1A HWc1B HWc1C HI3 HA4 HOc1A HOc1B HOc1C
  iapply (step_bind c)
  iapply (part7 m K c v13 v24) $$ He HS6 HO HWc1A HL6 HS8 HOc1B HL8 HS7 HOc1A HL7
  iintro HS6 HS8 HS7 HO
  iapply (step_bind c)
  iapply (part8 m K c v2 v13 v24 _) $$ He HS9 HO HWc1B HL9 HWc0C HOc0C HR1
  iintro HS9 HO HWc0C HOc0C HR1 HOl0F
  iapply (step_bind c)
  iapply (part9 m K c v13 v24 _ _) $$ He HR3 HO HWl0R HOl0F HOr0R
  iintro HO HR3 HWr0F HWl0R HOl0F HOr0R
  iapply (step_bind c)
  iapply (part10 m K c v13 v24 v35 _ _) $$ He HR4 HO HR5
  iintro HO HR4 HWp0F HR5 HOp0F
  iapply (step_bind c)
  iapply (part11 m K c v13 v24) $$ He HR6 HO HS10 HL10 HR8
  iintro HR6 HWl1R HS10 HO HR8 HOr1A HOr1R
  iapply (step_bind c)
  iapply (part12 m K c v13 v24) $$ He HS11 HO HOr1A HL11 HI4 HI5 HS12 HL12
  iintro HS11 HI4 HA5 HWc2B HWc2C HI5 HA6 HOc2A HOc2B HOc2C HS12 HO
  iapply (step_bind c)
  iapply (part13 m K c v2 v13 v24 _) $$ He HS14 HO HOc2B HL14 HS13 HOc2A HL13 HS15 HWc2B HL15 HWc1C
  iintro HS14 HS13 HS15 HO HWc1C
  iapply (step_bind c)
  iapply (part14 m K c v2 v13 v24 _ _ _) $$ He HOc1C HR7 HO HR9 HWl1R
  iintro HOc1C HO HR7 HOl1F HR9 HWr1F HWl1R
  iapply (step_bind c)
  iapply (part15 m K c v13 v24 _ _ _ _) $$ He HOl1F HWr1F HOr1R HR10 HO
  iintro HOl1F HWr1F HOr1R HO HR10 HWp1F
  iapply (step_bind c)
  iapply (part16 m K c v13 v24 v35 _ _) $$ He HR11 HO HWp1F HR12
  iintro HO HR11 HOp1F HWp1F HR12 HWl2A HWl2R
  iapply (step_bind c)
  iapply (part17 m K c v2 v13 v24) $$ He HS16 HO HWl2A HL16 HR14 HS17 HL17 HWc2C
  iintro HS16 HR14 HOr2R HS17 HO HWc2C
  iapply (step_bind c)
  iapply (part18 m K c v2 v13 v24 _ _ _) $$ He HOc2C HR13 HO HR15 HWl2R
  iintro HOc2C HO HR13 HOl2F HR15 HWr2F HWl2R
  iapply (step_bind c)
  iapply (part19 m K c v13 v24 _ _ _) $$ He HOl2F HWr2F HOr2R HR16 HO
  iintro HOl2F HWr2F HOr2R HO HR16 HWp2F
  iapply (step_bind c)
  iapply (part20 m K c v24 v35 _ _ _ rfl) $$ He HR17 HO HWp2F HY HD HZ HS0
  iintro HO HR17 HOp2F HWp2F HZ HS0 HWc0A
  iapply (step_bind c)
  iapply (part21 m K c ) $$ He HS2 HO HS1 HS3
  iintro HO HS2 HOc0B HS1 HOc0A HS3 HWc0B
  iapply (step_bind c)
  iapply (part22 m K c ) $$ He HS4 HO HS5 HS6 HS8
  iintro HO HS4 HWl0A HS5 HOr0A HS6 HWc1A HS8 HOc1B
  iapply (step_bind c)
  iapply (part23 m K c ) $$ He HS7 HO HS9 HS10 HS11
  iintro HO HS7 HOc1A HS9 HWc1B HS10 HWl1A HS11 HOr1A
  iapply (step_bind c)
  iapply (part24 m K c ) $$ He HS12 HO HS14 HS13 HS15
  iintro HO HS12 HWc2A HS14 HOc2B HS13 HOc2A HS15 HWc2B
  iapply (step_lift c)
  iapply (step_waitW m K c (sendS 16) rfl (.snd 16) (kd_send 16) (slot m c true (lft c) 2 fullShare.left) rfl J18 (by decide) rfl) $$ He HS16 HO
  iintro HS16 HWl2A HO
  iapply (step_lift c)
  iapply (step_waitO m K c (sendS 17) rfl (.snd 17) (kd_send 17) (slot m c false (rgt c) 2 fullShare.left) rfl J18 (by decide) rfl) $$ He HS17 HO
  iintro HS17 HOr2A HO
  iapply (step_lift c)
  iapply (step_wait m K c outS rfl .out kd_out iprop((((c : Thread nD τ).loc main_v1) ↦{fullShare} outAt m c) ∗ ((c : Thread nD τ).loc cc0_scratch3) ↦{fullShare} outAt m c) rfl J18 (by decide) rfl) $$ He HZ HO
  iintro HZ ⟨HD, HY⟩ HO
  iapply (step_pure c)
  ihave XWc0 := (own_back m c true c 0) $$ HWc0A HWc0B HWc0C
  ihave XOc0 := (own_back m c false c 0) $$ HOc0A HOc0B HOc0C
  ihave XWl0 := (fwd_back m c true (lft c) 0) $$ HWl0A HWl0R
  ihave XOr0 := (fwd_back m c false (rgt c) 0) $$ HOr0A HOr0R
  ihave XWc1 := (own_back m c true c 1) $$ HWc1A HWc1B HWc1C
  ihave XOc1 := (own_back m c false c 1) $$ HOc1A HOc1B HOc1C
  ihave XWl1 := (fwd_back m c true (lft c) 1) $$ HWl1A HWl1R
  ihave XOr1 := (fwd_back m c false (rgt c) 1) $$ HOr1A HOr1R
  ihave XWc2 := (own_back m c true c 2) $$ HWc2A HWc2B HWc2C
  ihave XOc2 := (own_back m c false c 2) $$ HOc2A HOc2B HOc2C
  ihave XWl2 := (fwd_back m c true (lft c) 2) $$ HWl2A HWl2R
  ihave XOr2 := (fwd_back m c false (rgt c) 2) $$ HOr2A HOr2R
  ihave YW := (gatherW m c) $$ XWc0 XWc1 XWc2 XWl0 XWl1 XWl2 HWr0F HWr1F HWr2F HWp0F HWp1F HWp2F
  ihave YO := (gatherO m c) $$ XOc0 XOc1 XOc2 HOl0F HOl1F HOl2F XOr0 XOr1 XOr2 HOp0F HOp1F HOp2F
  iapply Hk $$ [HO HC HS0 HS1 HS2 HS3 HS4 HS5 HS6 HS7 HS8 HS9 HS10 HS11 HS12 HS13 HS14 HS15 HS16 HS17 HR0 HR1 HR2 HR3 HR4 HR5 HR6 HR7 HR8 HR9 HR10 HR11 HR12 HR13 HR14 HR15 HR16 HR17 HI0 HI1 HI2 HI3 HI4 HI5 HI6 HZ] [HA0 HA1 HA2 HA3 HA4 HA5 HA6] [YW YO HX HY HD]
  · unfold closed
    isplitl [HO]; · iexact HO
    isplitl [HC]; · iexact HC
    rw [dma_split, each18, each18, each7]
    isplitl [HS0 HS1 HS2 HS3 HS4 HS5 HS6 HS7 HS8 HS9 HS10 HS11 HS12 HS13 HS14 HS15 HS16 HS17]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      iexact HS17
    isplitl [HR0 HR1 HR2 HR3 HR4 HR5 HR6 HR7 HR8 HR9 HR10 HR11 HR12 HR13 HR14 HR15 HR16 HR17]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      iexact HR17
    isplitl [HI0 HI1 HI2 HI3 HI4 HI5 HI6]
    · isplitl [HI0]; · iexact HI0
      isplitl [HI1]; · iexact HI1
      isplitl [HI2]; · iexact HI2
      isplitl [HI3]; · iexact HI3
      isplitl [HI4]; · iexact HI4
      isplitl [HI5]; · iexact HI5
      iexact HI6
    iexact HZ
  · isplitl [HA0]; · iexact HA0
    isplitl [HA1]; · iexact HA1
    isplitl [HA2]; · iexact HA2
    isplitl [HA3]; · iexact HA3
    isplitl [HA4]; · iexact HA4
    isplitl [HA5]; · iexact HA5
    iexact HA6
  unfold filled
  isplitl [YW]; · iexact YW
  isplitl [YO]; · iexact YO
  isplitl [HX]; · iexact HX
  isplitl [HY]; · iexact HY
  iexact HD

end Cert.RingMlp
-- ==== Proof.Launch.lean ====
/-
  The launch: the rounds' ghost state of every device's cells is set up at once and its tokens dealt to the devices that
  will pay with them, the launch credit is what each device will wait for, and the body's run gives the whole program's.
-/
module

public import proofs.«01_k».proof.Proof.Body
public import proofs.«01_k».proof.Proof.Gen.KernelIdeal.Launch
public import proofs.«01_k».proof.Proof.Gen.KernelIdeal.Points
public import Idealize.ShloMosaic.Lib.Pipeline.CollectiveSegs

@[expose] public section

noncomputable section

namespace Cert.RingMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells, enumerated -/

/-- The kernel's own semaphores: all the DMA ones. -/
abbrev osem : DmaSem sig → SemLoc sig := .dma

theorem ownSemFacts : Pipeline.OwnSemFacts cfg0.spec osem := by decide

theorem sem_split (P : SemLoc sig → sProp 𝕄) :
    bigSep Finset.univ P = iprop(P (.reg barS) ∗ bigSep Finset.univ fun q : DmaSem sig => P (.dma q)) := by
  rw [BI.bigSep_univ_equiv (SemLoc.equivSum sig).symm, BI.bigSep_univ_sum,
    bigSep_univ_eq_bigSepL [barS] (by decide) (by decide), bigSepL_singleton]
  rfl

abbrev Cell : Type := Dev nD × SemLoc sig
abbrev at' (p : Cell) : GSem nD τ sig := cell p.1 p.2

theorem at_inj : Function.Injective at' := by
  rintro ⟨c, s⟩ ⟨c', s'⟩ h
  exact Prod.ext (congrArg (fun g : GSem nD τ sig => g.1.1) h) (congrArg (fun g : GSem nD τ sig => g.2) h)
def allCells : Finset (GSem nD τ sig) := Finset.univ.map ⟨at', at_inj⟩

/-- The duty tokens of a device's own cells, indexed: the barrier's two, and one of each DMA cell. -/
abbrev dutyOf (p : Dev nD × (Bool ⊕ DmaSem sig)) : GSem nD τ sig × ℕ × Bool := match p.2 with
  | .inl b => (cell p.1 (.reg barS), 0, b) | .inr q => (cell p.1 (.dma q), 0, false)
theorem dutyOf_inj : Function.Injective dutyOf := by
  rintro ⟨c, b | q⟩ ⟨c', b' | q'⟩ h
  · exact Prod.ext (congrArg (fun x : GSem nD τ sig × ℕ × Bool => x.1.1.1) h) (congrArg (fun x : GSem nD τ sig × ℕ × Bool => Sum.inl x.2.2) h)
  · have := congrArg (fun x : GSem nD τ sig × ℕ × Bool => x.1.2) h; cases this
  · have := congrArg (fun x : GSem nD τ sig × ℕ × Bool => x.1.2) h; cases this
  · have h1 : c = c' := congrArg (fun x : GSem nD τ sig × ℕ × Bool => x.1.1.1) h
    have h2 : SemLoc.dma q = SemLoc.dma q' := congrArg (fun x : GSem nD τ sig × ℕ × Bool => x.1.2) h
    cases h2; rw [h1]
def allDuties : Finset (GSem nD τ sig × ℕ × Bool) := Finset.univ.map ⟨dutyOf, dutyOf_inj⟩

def u₀ : UU := (initOf (Pipeline.cells cfgs cellOf_inj) (Pipeline.launchToks cfgs cellOf_inj), initOf allCells allDuties)

/-! ## What the launch deals each device -/

abbrev dTok (c : Dev nD) (q : DmaSem sig) : sProp 𝕄 := dutyTok ER (cell c (.dma q)) 0 false
def minted (c : Dev nD) : sProp 𝕄 :=
  iprop((dutyTok ER (cell c (.reg barS)) 0 false ∗ dutyTok ER (cell c (.reg barS)) 0 true) ∗ bigSep Finset.univ fun q : DmaSem sig => dTok c q)
/-- The tokens a device pays with: the minted ones, those of barrier and receive cells moved to the neighbour that pays. -/
def purse (c : Dev nD) : sProp 𝕄 :=
  iprop(barTick c ∗ (bigSep Finset.univ fun j : Fin 18 => dTok c (sendS j)) ∗ (bigSep Finset.univ fun j : Fin 18 => dTok (tgt c j) (recvS j))
    ∗ (bigSep Finset.univ fun i : Fin 7 => dTok c (inS i)) ∗ dTok c outS)
def places (c : Dev nD) : sProp 𝕄 := bigSep Finset.univ fun s : SemLoc sig => atPos ER (cell c s) 0 ∅ 0

def G (c : Dev nD) : sProp 𝕄 :=
  iprop((bigSep Finset.univ fun s : SemLoc sig => roundState ER (Rd m) (cell c s) 0)
    ∗ (bigSep Finset.univ fun s : SemLoc sig => reached ER (cell c s) 0) ∗ places c ∗ minted c)
/-- The cells' invariants and rounds, without the levels. -/
def facts (K : Names) : sProp 𝕄 :=
  iprop((bigSep Finset.univ fun p : Cell => cellInv ER (Rd m) (K p) (cell p.1 p.2))
    ∗ bigSep Finset.univ fun p : Cell => reached ER (cell p.1 p.2) 0)
instance facts_persistent (K : Names) : BI.Persistent (facts m K) := by unfold facts; infer_instance
def G' (c : Dev nD) : sProp 𝕄 := iprop(∃ K, facts m K ∗ places c ∗ purse c)

theorem fund_all : BI.own (ER (initOf allCells allDuties)) ⊢ (|==> bigSep Finset.univ (G m) : sProp 𝕄) := by
  have hC (P : GSem nD τ sig → sProp 𝕄) :
      bigSep allCells P = bigSep Finset.univ fun c : Dev nD => bigSep Finset.univ fun s : SemLoc sig => P (cell c s) := by
    unfold allCells; rw [BI.bigSep_map, BI.bigSep_univ_prod]; rfl
  have hT : bigSep allDuties (fun x => (dutyTok ER x.1 x.2.1 x.2.2 : sProp 𝕄)) = bigSep Finset.univ fun c : Dev nD => minted c := by
    unfold allDuties; rw [BI.bigSep_map, BI.bigSep_univ_prod]
    exact bigSep_congr fun c _ => by
      unfold minted
      rw [BI.bigSep_univ_sum, bigSep_univ_eq_bigSepL [false, true] (by decide) (by decide), bigSepL_cons_cons, bigSepL_singleton]; rfl
  iintro HX
  imod (Rounds.fund ER (Rd m) allCells allDuties) $$ HX with ⟨Hs, Hr, Ha, Ht⟩
  imodintro
  ihave Hs := (Entails.of_eq (hC fun g => roundState ER (Rd m) g 0)) $$ Hs
  ihave Hr := (Entails.of_eq (hC fun g => reached ER g 0)) $$ Hr
  ihave Ha := (Entails.of_eq (hC fun g => atPos ER g 0 ∅ 0)) $$ Ha
  ihave Ht := (Entails.of_eq hT) $$ Ht
  unfold G places; simp only [bigSep_sep']
  isplitl [Hs]; · iexact Hs
  isplitl [Hr]; · iexact Hr
  isplitl [Ha]; · iexact Ha
  iexact Ht

theorem unscoped_eq (c : Dev nD) : (unscopedSems0 c : sProp 𝕄) = semVal (cell c (.reg barS)) 0 := by
  unfold unscopedSems0; rw [bigSep_eq_bigSepL_of_eq [SemLoc.reg barS] (by decide) (by decide)]; rfl

theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : SemLoc sig => iprop(∃ κ : ℕ, cellInv ER (Rd m) κ (cell c s)))
          ∗ (bigSep Finset.univ fun s : SemLoc sig => reached ER (cell c s) 0) ∗ places c ∗ minted c) := by
  rw [unscoped_eq]
  unfold G
  iintro ⟨Ho, Hu, Hs, Hr, Ha, Ht⟩
  ihave Hv := (Entails.of_eq (sem_split (F := F) fun s => semVal (cell c s) 0).symm) $$ [Ho Hu]
  · isplitl [Hu]; · iexact Hu
    unfold Pipeline.ownSems0; iexact Ho
  imod (show iprop((bigSep Finset.univ fun s : SemLoc sig => semVal (cell c s) 0) ∗ bigSep Finset.univ fun s : SemLoc sig => roundState ER (Rd m) (cell c s) 0)
      ⊢ (|={Set.univ}=> bigSep Finset.univ fun s => iprop(∃ κ : ℕ, cellInv ER (Rd m) κ (cell c s)) : sProp 𝕄) from by
        rw [← bigSep_sep']
        exact (bigSep_mono fun s _ => (Rounds.body_intro ER (Rd m) (cell c s)).trans inv_alloc).trans (bigSep_fupd _ _)) $$ [Hv Hs] with Hi
  · isplitl [Hv] <;> iassumption
  imodintro
  isplitl [Hi]; · iexact Hi
  isplitl [Hr]; · iexact Hr
  isplitl [Ha] <;> iassumption

def turn : Dev nD ≃ Dev nD := ⟨lft, rgt, rgt_lft, lft_rgt⟩
/-- The device that sends transfer `j` to a device. -/
def src (j : Fin 18) (c : Dev nD) : Dev nD := match toR j with | true => lft c | false => rgt c
theorem src_tgt (j : Fin 18) (c : Dev nD) : src j (tgt c j) = c := by revert c; revert j; decide
theorem tgt_src (j : Fin 18) (c : Dev nD) : tgt (src j c) j = c := by revert c; revert j; decide
def hop : Dev nD × Fin 18 ≃ Dev nD × Fin 18 :=
  ⟨fun p => (tgt p.1 p.2, p.2), fun p => (src p.2 p.1, p.2), fun p => Prod.ext (src_tgt p.2 p.1) rfl, fun p => Prod.ext (tgt_src p.2 p.1) rfl⟩

theorem deal : (bigSep Finset.univ fun c : Dev nD => (minted c : sProp 𝕄)) ⊢ bigSep Finset.univ fun c : Dev nD => purse c := by
  have hR : (bigSep Finset.univ fun c : Dev nD => bigSep Finset.univ fun j : Fin 18 => (dTok c (recvS j) : sProp 𝕄))
      = bigSep Finset.univ fun c : Dev nD => bigSep Finset.univ fun j : Fin 18 => dTok (tgt c j) (recvS j) := by
    rw [← BI.bigSep_univ_prod (fun p : Dev nD × Fin 18 => (dTok p.1 (recvS p.2) : sProp 𝕄)), BI.bigSep_univ_equiv hop, BI.bigSep_univ_prod]; rfl
  have hM : (bigSep Finset.univ fun c : Dev nD => (minted c : sProp 𝕄)) = bigSep Finset.univ fun c : Dev nD =>
      iprop((dutyTok ER (cell c (.reg barS)) 0 false ∗ dutyTok ER (cell c (.reg barS)) 0 true)
        ∗ (bigSep Finset.univ fun j : Fin 18 => dTok c (sendS j)) ∗ (bigSep Finset.univ fun j : Fin 18 => dTok c (recvS j))
        ∗ (bigSep Finset.univ fun i : Fin 7 => dTok c (inS i)) ∗ dTok c outS) :=
    bigSep_congr fun c _ => by unfold minted; rw [dma_split]
  rw [hM]
  unfold purse barTick
  simp only [bigSep_sep']
  rw [hR, BI.bigSep_univ_equiv turn (fun c : Dev nD => (dutyTok ER (cell c (.reg barS)) 0 false : sProp 𝕄)),
    BI.bigSep_univ_equiv turn.symm (fun c : Dev nD => (dutyTok ER (cell c (.reg barS)) 0 true : sProp 𝕄))]
  exact Entails.refl _

theorem spread {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  iintro ⟨HR, HΦ⟩
  ihave HR := (BI.bigSep_of_persistent S R) $$ HR
  iapply ((Entails.of_eq (bigSep_sep' S (fun _ => R) Φ).symm).trans (bigSep_mono fun i _ => h i))
  isplitl [HR] <;> iassumption

theorem share : (bigSep Finset.univ fun c : Dev nD => iprop((bigSep Finset.univ fun s : SemLoc sig => iprop(∃ κ : ℕ, cellInv ER (Rd m) κ (cell c s)))
          ∗ (bigSep Finset.univ fun s : SemLoc sig => reached ER (cell c s) 0) ∗ places c ∗ minted c) : sProp 𝕄) ⊢ bigSep Finset.univ (G' m) := by
  simp only [bigSep_sep']
  rw [← BI.bigSep_univ_prod (fun p : Cell => iprop(∃ κ : ℕ, (cellInv ER (Rd m) κ (cell p.1 p.2) : sProp 𝕄))),
    ← BI.bigSep_univ_prod (fun p : Cell => (reached ER (cell p.1 p.2) 0 : sProp 𝕄))]
  iintro ⟨HI, #HR, Ha, Ht⟩
  ihave HK := (BI.bigSep_exists_pi Finset.univ (fun (p : Cell) (κ : ℕ) => (cellInv ER (Rd m) κ (cell p.1 p.2) : sProp 𝕄))) $$ HI
  icases HK with ⟨%K, #HI⟩
  ihave Ht := (deal (F := F)) $$ Ht
  iapply (spread (R := facts m K) (Φ := fun c => iprop(places c ∗ purse c)) (Ψ := G' m) fun c => by
    unfold G'; iintro H; iexists K; iexact H)
  isplitr
  · unfold facts; isplitl; · iexact HI
    iexact HR
  · iapply (Entails.of_eq (bigSep_sep' Finset.univ (fun c : Dev nD => (places c : sProp 𝕄)) purse).symm)
    isplitl [Ha] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (share m))

/-! ## The launch credit -/

theorem cell_eq {a b : Dev nD} {s t : SemLoc sig} (h : cell a s = cell b t) : a = b ∧ s = t :=
  ⟨congrArg (fun g : GSem nD τ sig => g.1.1) h, congrArg (fun g : GSem nD τ sig => g.2) h⟩
theorem recvS_inj {i j : Fin 18} (h : (SemLoc.dma (recvS i) : SemLoc sig) = .dma (recvS j)) : i = j := by
  have h' : recvS i = recvS j := by cases i; cases j; injection h
  have := congrArg (fun q : DmaSem sig => q.val) h'
  exact Fin.ext (Nat.add_left_cancel this)

theorem owedL_bar (d c : Dev nD) (js : List (Fin 18)) : owedL d js (cell c (.reg barS)) () = 0 := by
  by_contra h
  obtain ⟨j, -, hj⟩ := owedL_pos (Nat.pos_of_ne_zero h)
  cases (cell_eq hj).2

theorem owedL_recv (d c : Dev nD) (j : Fin 18) : ∀ js : List (Fin 18),
    owedL d js (cell c (.dma (recvS j))) () = js.count j * (if d = src j c then amtJ (isW j) else 0)
  | [] => by rw [List.count_nil, Nat.zero_mul]; rfl
  | i :: js => by
    unfold owedL
    rw [Pi.add_apply, Finsupp.add_apply, owedL_recv d c j js, tallyAt_apply, List.count_cons, Nat.add_mul]
    congr 1
    by_cases hi : i = j
    · subst hi
      rw [beq_self_eq_true, if_pos rfl, Nat.one_mul]
      by_cases hd : d = src i c
      · subst hd; rw [tgt_src, if_pos ⟨rfl, rfl⟩, if_pos rfl]
      · rw [if_neg hd, if_neg fun h => hd (by rw [(cell_eq h.1).1, src_tgt])]
    · rw [if_neg fun h => hi (recvS_inj (cell_eq h.1).2).symm, if_neg (by simpa using hi), Nat.zero_mul]

theorem owed_bar (d c : Dev nD) : O₀ d (cell c (.reg barS)) () = (if d = lft c then 1 else 0) + (if d = rgt c then 1 else 0) := by
  unfold O₀ O₁
  rw [Pi.add_apply, Finsupp.add_apply, Pi.add_apply, Finsupp.add_apply, owedL_bar, Nat.zero_add, tallyAt_apply, tallyAt_apply]
  congr 1
  · by_cases h : d = lft c
    · subst h; rw [rgt_lft, if_pos ⟨rfl, rfl⟩, if_pos rfl]
    · rw [if_neg h, if_neg fun h' => h (by rw [(cell_eq h'.1).1, lft_rgt])]
  · by_cases h : d = rgt c
    · subst h; rw [lft_rgt, if_pos ⟨rfl, rfl⟩, if_pos rfl]
    · rw [if_neg h, if_neg fun h' => h (by rw [(cell_eq h'.1).1, rgt_lft])]

theorem owed_recv (d c : Dev nD) (j : Fin 18) : O₀ d (cell c (.dma (recvS j))) () = if d = src j c then amtJ (isW j) else 0 := by
  unfold O₀ O₁
  have hne (a b : Dev nD) : ¬(cell a (.dma (recvS j)) = cell b (.reg barS) ∧ () = ()) := fun h => by cases (cell_eq h.1).2
  rw [Pi.add_apply, Finsupp.add_apply, Pi.add_apply, Finsupp.add_apply, owedL_recv, tallyAt_apply, tallyAt_apply, if_neg (hne c _), if_neg (hne c _),
    show order.count j = 1 from by revert j; decide, Nat.one_mul]
  rfl

theorem credit_bar (c : Dev nD) :
    tallyOn (cell c (.reg barS)) (launchCredit (Pipeline.owing O₀) 0 (cell c (.reg barS))) = (tallyAt (cell c (.reg barS)) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lft c) fun _ => 1, Finset.sum_ite_eq' Finset.univ (rgt c) fun _ => 1, if_pos (Finset.mem_univ _), if_pos (Finset.mem_univ _)]

theorem credit_recv (c : Dev nD) (j : Fin 18) :
    tallyOn (cell c (.dma (recvS j))) (launchCredit (Pipeline.owing O₀) 0 (cell c (.dma (recvS j))))
      = (tallyAt (cell c (.dma (recvS j))) () (amtK (kd (recvS j))) : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (src j c) fun _ => amtJ (isW j), if_pos (Finset.mem_univ _), kd_recv]
  rfl

theorem creds (c : Dev nD) : (Pipeline.launchCred O₀ c : sProp 𝕄) ⊢ iprop(cred (tallyAt (cell c (.reg barS)) () 2)
    ∗ bigSep Finset.univ fun j : Fin 18 => cred (tallyAt (cell c (.dma (recvS j))) () (amtK (kd (recvS j))))) := by
  unfold Pipeline.launchCred
  rw [sem_split, dma_split, credit_bar, bigSep_congr (s := Finset.univ) fun (j : Fin 18) _ => congrArg (fun t => (cred t : sProp 𝕄)) (credit_recv c j)]
  iintro ⟨HB, -, HR, -, -⟩
  isplitl [HB] <;> iassumption

/-! ## The body as the pipeline calls it -/

/-- Before the body: what it consumes, but for what it owes. -/
def seed' (c : Dev nD) : sProp 𝕄 :=
  iprop(barTick c ∗ barFly c ∗ (bigSep Finset.univ fun j : Fin 18 => sTick c j) ∗ (bigSep Finset.univ fun j : Fin 18 => fly c (recvS j))
    ∗ (bigSep Finset.univ fun i : Fin 7 => tick c (inS i)) ∗ tick c outS)
def start (c : Dev nD) : sProp 𝕄 := iprop((∃ K, env m K ∗ seed' c) ∗ allArgs m c ∗ anyPts c main_v1)
def Φ₀ (c : Dev nD) : sProp 𝕄 := iprop((∃ K, env m K ∗ seed' c) ∗ allArgs m c ∗ room c)
def Φ₁ (c : Dev nD) : sProp 𝕄 := iprop((barShut c ∗ bigSep Finset.univ fun q : DmaSem sig => shut c q) ∗ allArgs m c ∗ filled m c)

def dats (_ : Fin 1) (c : Dev nD) : Pipeline.Dat τ (Elt F) Unit ℕ UU ℕ cfg0 c where
  A w := Fin.elim0 w
  after w _ := Fin.elim0 w
  Φ t := match t with
    | ⟨0, _⟩ => Φ₀ m c
    | ⟨_ + 1, _⟩ => Φ₁ m c
  q _ := fullShare
  owed t := match t with
    | ⟨0, _⟩ => O₀ c
    | ⟨_ + 1, _⟩ => 0

theorem no_windows (Φ : Fin cfg0.W → sProp 𝕄) : bigSep Finset.univ Φ = iprop(emp) :=
  bigSep_univ_eq_bigSepL [] (by decide) (by decide) Φ

def bodyPre (c : Dev nD) : sProp 𝕄 := iprop(Φ₀ m c ∗ (dats m 0 c).owesAt () t0_0.castSucc ∗ emp)
def bodyPost (c : Dev nD) : sProp 𝕄 := iprop(Φ₁ m c ∗ (dats m 0 c).owesAt () t0_0.succ ∗ emp)

theorem body_sound (c : Dev nD) : bodyPre m c ⊢ WP c (bodyAt0 t0_0) (fun _ => bodyPost m c) := by
  unfold bodyPre Φ₀ Pipeline.Dat.owesAt Pipeline.owesWithin
  rw [show (dats m 0 c).owed t0_0.castSucc = O₀ c from rfl]
  unfold seed'
  iintro ⟨⟨⟨%K, #He, H1, H2, H3, H4, H5, H6⟩, Ha, Hr⟩, ⟨%W, %hW, HO⟩, -⟩
  iapply (body_run m K c (Q := fun _ => bodyPost m c)) $$ He [H1 H2 H3 H4 H5 H6 HO] Ha Hr
  · unfold seeds ow
    isplitl [HO]; · iexists W; iexact HO
    isplitl [H1]; · iexact H1
    isplitl [H2]; · iexact H2
    isplitl [H3]; · iexact H3
    isplitl [H4]; · iexact H4
    isplitl [H5]; · iexact H5
    iexact H6
  unfold closed ow bodyPost Φ₁ Pipeline.Dat.owesAt Pipeline.owesWithin
  iintro ⟨⟨%W', HO⟩, Hs⟩ Ha Hf
  isplitl [Hs Ha Hf]
  · isplitl [Hs]; · iexact Hs
    isplitl [Ha] <;> iassumption
  isplitl [HO]
  · iexists W'; isplitr
    · ipureintro; exact fun _ _ => Or.inl trivial
    · iexact HO
  · iempintro

set_option maxRecDepth 8000 in
theorem body_obligation (c : Dev nD) : Pipeline.BodyObligationLoose (dats (F := F) m 0 c) (defs₀ (F := F)) 𝒱₀ () Set.univ := fun t => by
  rw [fin_N0 t, no_windows, no_windows]
  exact body_sound m c

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' facts places purse
  rw [sem_split, dma_split]
  iintro ⟨⟨A0, A1, A2, A3, A4, A5, A6, D⟩, #HL, HC, -, %K, ⟨#HI, #HR⟩, ⟨PB, PS, PR, PI, PO⟩, TB, TS, TR, TI, TO⟩
  ihave HC := (creds (F := F) c) $$ HC
  icases HC with ⟨CB, CR⟩
  imodintro
  unfold start
  isplitl
  · isplitl [PB PS PR PI PO TB TS TR TI TO CB CR]
    · iexists K
      isplitr
      · unfold env
        isplitl; · iexact HI
        isplitl; · iexact HR
        iexact HL
      unfold seed' sTick tick fly barFly
      simp only [bigSep_sep']
      isplitl [TB]; · iexact TB
      isplitl [PB CB]; · isplitl [PB] <;> iassumption
      isplitl [TS PS TR]
      · isplitl [TS PS]
        · isplitl [TS] <;> iassumption
        · iexact TR
      isplitl [PR CR]; · isplitl [PR] <;> iassumption
      isplitl [TI PI]; · isplitl [TI] <;> iassumption
      isplitl [TO] <;> iassumption
    isplitl [A0 A1 A2 A3 A4 A5 A6]
    · unfold allArgs
      isplitl [A0]; · iexact A0
      isplitl [A1]; · iexact A1
      isplitl [A2]; · iexact A2
      isplitl [A3]; · iexact A3
      isplitl [A4]; · iexact A4
      isplitl [A5]; · iexact A5
      iexact A6
    · iexists _; iexact D
  · iempintro

theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold start Φ₀ room
  iintro ⟨⟨Hs, Ha, Hd⟩, -, H0, H1, H2, H3⟩
  isplitl [Hs]; · iexact Hs
  isplitl [Ha]; · iexact Ha
  isplitl [H0]; · iexact H0
  isplitl [H1]; · iexact H1
  isplitl [H2]; · iexact H2
  isplitl [H3] <;> iassumption

/-- What a device has after the run: its barrier cell at zero, its arguments as they were, its block of the result. -/
def done (c : Dev nD) : sProp 𝕄 :=
  iprop(unscopedSems0 c ∗ allArgs m c ∗ ((c : Thread nD τ).loc main_v1) ↦{fullShare} outAt m c)

theorem last_exit (c : Dev nD) :
    (dats m 0 c).Φ (Fin.last cfg0.N) ⊢ iprop(done m c ∗ Pipeline.ownSems0 osem c ∗ Pipeline.scopedRest cfg0.spec c) := by
  rw [show (dats m 0 c).Φ (Fin.last cfg0.N) = Φ₁ m c from rfl, scopedRest0_eq]
  unfold Φ₁ filled done Pipeline.ownSems0 barShut
  rw [unscoped_eq]
  iintro ⟨⟨HB, HS⟩, Ha, H0, H1, H2, H3, HD⟩
  isplitl [HB Ha HD]
  · isplitl [HB]; · iexact HB
    isplitl [Ha] <;> iassumption
  isplitl [HS]; · iexact HS
  isplitl [H0]; · iexists _; iexact H0
  isplitl [H1]; · iexists _; iexact H1
  isplitl [H2]; · iexists _; iexact H2
  iexists _; iexact H3

theorem waits (c : Dev nD) : (levAts L lv : sProp 𝕄) ⊢ Pipeline.cellsWaits cfgs (dats m) () 0 c :=
  Pipeline.cellsWaits_intro cfgs (dats m) () 0 c fun w s t => Fin.elim0 w

/-! ## The run -/

/-- What a final memory says of device `c`. -/
def Final (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6))
  ∧ s.mem ((c : Thread nD τ).loc main_v1) = outAt m c

theorem read_one (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  have h := pointsTo_read_all (Ix := Unit) (Name := ℕ) (U := UU) (Lvl := ℕ) (Finset.univ : Finset Unit) (fun _ => ℓ) (fun _ => f) s'
  iintro ⟨H, HSI⟩
  ihave H := (h) $$ [H HSI]
  · isplitl [H]
    · iapply (Entails.of_eq (bigSep_univ_eq_bigSepL [()] (by decide) (by decide) (fun _ : Unit => ((ℓ ↦{fullShare} f) : sProp 𝕄))).symm)
      rw [bigSepL_singleton]; iexact H
    · iexact HSI
  icases H with ⟨%h, HSI⟩
  isplitr
  · ipureintro; exact h () (Finset.mem_univ _)
  · iexact HSI

theorem read_done (c : Dev nD) (s' : Phys nD τ sig (Elt F)) :
    iprop(done m c ∗ iprop(emp) ∗ SI s') ⊢ |={Set.univ}=> iprop(⌜Final m c s'.mem ∧ ∀ sm : SemLoc sig, sm.isScoped .tc = false → s'.mem.sem ((c.tc : Thread nD τ), sm) = 0⌝ ∗ SI s') := by
  unfold done allArgs
  iintro ⟨⟨HU, ⟨A0, A1, A2, A3, A4, A5, A6⟩, HD⟩, -, HSI⟩
  ihave H := (read_one _ _ s') $$ [A0 HSI]
  · isplitl [A0] <;> iassumption
  icases H with ⟨%h0, HSI⟩
  ihave H := (read_one _ _ s') $$ [A1 HSI]
  · isplitl [A1] <;> iassumption
  icases H with ⟨%h1, HSI⟩
  ihave H := (read_one _ _ s') $$ [A2 HSI]
  · isplitl [A2] <;> iassumption
  icases H with ⟨%h2, HSI⟩
  ihave H := (read_one _ _ s') $$ [A3 HSI]
  · isplitl [A3] <;> iassumption
  icases H with ⟨%h3, HSI⟩
  ihave H := (read_one _ _ s') $$ [A4 HSI]
  · isplitl [A4] <;> iassumption
  icases H with ⟨%h4, HSI⟩
  ihave H := (read_one _ _ s') $$ [A5 HSI]
  · isplitl [A5] <;> iassumption
  icases H with ⟨%h5, HSI⟩
  ihave H := (read_one _ _ s') $$ [A6 HSI]
  · isplitl [A6] <;> iassumption
  icases H with ⟨%h6, HSI⟩
  ihave H := (read_one _ _ s') $$ [HD HSI]
  · isplitl [HD] <;> iassumption
  icases H with ⟨%h7, HSI⟩
  imod (Pipeline.unscopedSems0_read (X := unscopedSems0 c) (c := c) fupd_intro s') $$ [HU HSI] with ⟨%h, HSI⟩
  · isplitl [HU] <;> iassumption
  imodintro
  isplitr
  · ipureintro; exact ⟨⟨⟨h0, h1, h2, h3, h4, h5, h6⟩, h7⟩, h⟩
  · iexact HSI

set_option maxRecDepth 8000 in
/-- From any memory with zero counters, over any float values: every fair execution of the program on the ring of four
    devices terminates, leaves every device its arguments unchanged and its block `outAt` of the result, and every
    semaphore at zero. -/
theorem run_main : θ_run defs (onTc (τ := τ) (main (F := F))) ⟨m, fun _ => 0, ρ⟩ (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => Fin.elim0 w) (harr := arr_whole0) (hstage := stage_whole0) (hshare := fun c w => Fin.elim0 w)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => Fin.elim0 w) (hpf := fun _ k => k.elim0)
    (X := start m) (Y := done m) (Z := fun _ => iprop(emp))
    (hX := start_intro m ρ) (hin := first_intro m) (hout := last_exit m)
    (QY := fun c s => Final m c s ∧ ∀ sm : SemLoc sig, sm.isScoped .tc = false → s.sem ((c.tc : Thread nD τ), sm) = 0)
    (hY := read_done m)
    (hQ := fun _ h hs => ⟨fun c => (h c).2.2.1, sem_eq_zero hs fun c => (h c).2.2.2⟩)

end Cert.RingMlp
-- ==== Proof.Value.lean ====
/-
  The values, at the extended reals. A device's layer is the sum over the four owners of
  `max (x · W_o) 0 · U_o`, over the owner's 512 columns of `W` and rows of `U`; the reference's layer is the same product over
  all 2048. The two agree on the device's rows because the sum over 2048 is the sum of the four sums over 512.
-/
module

public import proofs.«01_k».proof.Proof.Protocol
public import proofs.«01_k».proof.ReferenceIdeal
public import proofs.«01_k».proof.Proof.Gen.ReferenceIdeal
public import Idealize.ShloMosaic.Lib.Layout
public import Idealize.ShloMosaic.Lib.MatmulPlain
public import Idealize.ShloMosaic.PureOps.Ideal

@[expose] public section

noncomputable section

namespace Cert.RingMlp

open Cert.KernelIdeal Cert.KernelIdeal.Gen
open Idealize.ShloMosaic
open Idealize.ShloMosaic.TcCoe
open Idealize.ShloMosaic.ValueIdx (ix2)
open scoped BigOperators

/-- An array of two axes. -/
abbrev Arr (M N : ℕ) : Type := (⟨2, ![M, N]⟩ : Shape).Idx → EReal

theorem ix2_eta {M N : ℕ} (i : (⟨2, ![M, N]⟩ : Shape).Idx) : i = ix2 (i 0) (i 1) := by
  funext t; fin_cases t <;> rfl
theorem exists_ix2 {M N : ℕ} (i : (⟨2, ![M, N]⟩ : Shape).Idx) : ∃ (a : Fin M) (b : Fin N), i = ix2 a b := ⟨i 0, i 1, ix2_eta i⟩

/-- The product of two matrices, and the positive part. -/
def mm {M K N : ℕ} (A : Arr M K) (B : Arr K N) : Arr M N := fun i => ∑ k : Fin K, A (ix2 (i 0) k) * B (ix2 k (i 1))
def pos {M N : ℕ} (A : Arr M N) : Arr M N := fun i => max (A i) 0
/-- One layer, or one owner's part of it. -/
def mlp {M K H N : ℕ} (x : Arr M K) (w : Arr K H) (u : Arr H N) : Arr M N := mm (pos (mm x w)) u

/-! ## The operations are these -/

theorem matmul_mm {M K N : ℕ} {φ₁ φ₂ : FTy} (A : FVec Ideal ⟨2, ![M, K]⟩ φ₁) (B : FVec Ideal ⟨2, ![K, N]⟩ φ₂) :
    FloatOps.matmul (DotDims.plain M K N) none A B (constant ⟨2, ![M, N]⟩ .f32 0x00000000#32) = mm A B := by
  funext i
  obtain ⟨a, b, rfl⟩ := exists_ix2 i
  rw [Ideal.matmul_plain_apply]
  show Ideal.ofBits .f32 0x00000000#32 + _ = _
  rw [Ideal.ofBits_zero_f32, zero_add]
  rfl

theorem first_mm (A : FVec Ideal S512x256 .bf16) (B : FVec Ideal S256x512 .bf16) :
    matmul dot_S512x256_S256x512_S512x512_1_0_0_1_n_n none A B (constant S512x512 .f32 0x00000000#32) = (mm A B : Arr 512 512) := matmul_mm A B
theorem second_mm (A : FVec Ideal S512x512 .bf16) (B : FVec Ideal S512x256 .bf16) :
    matmul dot_S512x512_S512x256_S512x256_1_0_0_1_n_n none A B (constant S512x256 .f32 0x00000000#32) = (mm A B : Arr 512 256) := matmul_mm A B

theorem dot_mm {M K N : ℕ} {φ₁ φ₂ : FTy} (A : FVec Ideal ⟨2, ![M, K]⟩ φ₁) (B : FVec Ideal ⟨2, ![K, N]⟩ φ₂) :
    Host.dotGeneral (DotDims.plain M K N) none A B = mm A B := by
  rw [← matmul_mm]
  funext i
  show FloatOps.dotGeneral _ none _ A B i = _
  rw [Ideal.dotGeneral_apply, Ideal.matmul_constant_zero_apply]

theorem pos_f32 (A : FVec Ideal S512x512 .f32) :
    truncf .bf16 (maximumf A (broadcast S512x512 (Scalar.ofBits (F := Ideal) .f32 0x00000000#32))) bitsLt_bf16_f32 = (pos A : Arr 512 512) := by
  funext i
  show max (A i) (Ideal.ofBits .f32 0x00000000#32) = max (A i) 0
  rw [Ideal.ofBits_zero_f32]

theorem pos_bf16 (A : FVec Ideal Cert.ReferenceIdeal.S2048x2048 .f32) :
    maximumf (truncf .bf16 A Cert.ReferenceIdeal.Gen.bitsLt_bf16_f32)
      (broadcastInDim Cert.ReferenceIdeal.S2048x2048 ![] Cert.ReferenceIdeal.Gen.bcast_S_S2048x2048 (constant (F := Ideal) Cert.ReferenceIdeal.S_ .bf16 0x0000#16))
      = (pos A : Arr 2048 2048) := by
  funext i
  show max (A i) (Ideal.ofBits .bf16 0x0000#16) = max (A i) 0
  rw [show Ideal.ofBits .bf16 0x0000#16 = 0 from by simp [Ideal.ofBits, Ideal.ieee]]

/-! ## A device's layers -/

section Layers
variable (m : (ℓ : Loc nD τ sig) → Buf (Elt Ideal) ℓ)

theorem cast_ldW (o : Dev nD) (l : Fin 3) : shapeCast S256x512 (ldW m o l) shapeCasts_S1x1x256x512_S256x512 = winAt m o l := read_gW m o l
theorem cast_ldO (o : Dev nD) (l : Fin 3) : shapeCast S512x256 (ldO m o l) shapeCasts_S1x1x512x256_S512x256 = woutAt m o l := read_gO m o l

/-- Owner `o`'s part of layer `l`. -/
def part (l : Fin 3) (x : Arr 512 256) (o : Dev nD) : Arr 512 256 := mlp x (winAt m o l) (woutAt m o l)

theorem four (c : Dev nD) (f : Dev nD → EReal) : ∑ o : Fin 4, f o = 0 + f c + f (lft c) + f (rgt c) + f (opp c) := by
  rw [Fin.sum_univ_four, zero_add]
  have h : c = 0 ∨ c = 1 ∨ c = 2 ∨ c = 3 := by revert c; decide
  rcases h with rfl | rfl | rfl | rfl
  · show f 0 + f 1 + f 2 + f 3 = f 0 + f 3 + f 1 + f 2; abel
  · show f 0 + f 1 + f 2 + f 3 = f 1 + f 0 + f 2 + f 3; abel
  · show f 0 + f 1 + f 2 + f 3 = f 2 + f 1 + f 3 + f 0; abel
  · show f 0 + f 1 + f 2 + f 3 = f 3 + f 2 + f 0 + f 1; abel

theorem zero_at (i : S512x256.Idx) : broadcast S512x256 (Scalar.ofBits (F := Ideal) .f32 0x00000000#32) i = (0 : EReal) := Ideal.ofBits_zero_f32

theorem lay0_eq (x : Vec Ideal S512x256 .bf16) (c : Dev nD) : lay0 m x c = fun i => ∑ o : Fin 4, part m 0 x o i := by
  unfold lay0 k0_pay3 k0_pay2 k0_pay1
  simp only [first_mm, second_mm, pos_f32]
  funext i
  rw [four c]
  show broadcast S512x256 (Scalar.ofBits (F := Ideal) .f32 0x00000000#32) i + _ + _ + _ + _ = _
  rw [zero_at]
  unfold part mlp
  rw [← cast_ldW, ← cast_ldO, ← cast_ldW, ← cast_ldO, ← cast_ldW, ← cast_ldO, ← cast_ldW, ← cast_ldO]

theorem lay1_eq (x : Vec Ideal S512x256 .bf16) (c : Dev nD) : lay1 m x c = fun i => ∑ o : Fin 4, part m 1 x o i := by
  unfold lay1 k0_pay9 k0_pay8 k0_pay7 k0_pay6 k0_pay5 k0_pay4
  simp only [first_mm, second_mm, pos_f32]
  funext i
  rw [four c]
  show broadcast S512x256 (Scalar.ofBits (F := Ideal) .f32 0x00000000#32) i + _ + _ + _ + _ = _
  rw [zero_at]
  unfold part mlp
  rw [← cast_ldW, ← cast_ldO, ← cast_ldW, ← cast_ldO, ← cast_ldW, ← cast_ldO, ← cast_ldW, ← cast_ldO]

theorem lay2_eq (x : Vec Ideal S512x256 .bf16) (c : Dev nD) : lay2 m x c = fun i => ∑ o : Fin 4, part m 2 x o i := by
  unfold lay2 k0_pay14 k0_pay13 k0_pay12 k0_pay11 k0_pay10
  simp only [first_mm, second_mm, pos_f32, shapeCast_self]
  funext i
  rw [four c]
  show broadcast S512x256 (Scalar.ofBits (F := Ideal) .f32 0x00000000#32) i + _ + _ + _ + _ = _
  rw [zero_at]
  unfold part mlp
  rw [← cast_ldW, ← cast_ldO, ← cast_ldW, ← cast_ldO, ← cast_ldW, ← cast_ldO, ← cast_ldW, ← cast_ldO]

end Layers

/-! ## Blocks -/

/-- Device `c`'s rows and columns of a whole array. -/
abbrev rows (c : Fin 4) (X : Arr 2048 256) : Arr 512 256 := Layout.block ⟨2, ![512, 256]⟩ ⟨2, ![2048, 256]⟩ 0 4 c X
abbrev cols (c : Fin 4) (X : Arr 256 2048) : Arr 256 512 := Layout.block ⟨2, ![256, 512]⟩ ⟨2, ![256, 2048]⟩ 1 4 c X

/-- Position `k` of part `o`. -/
def pos4 (o : Fin 4) (k : Fin 512) : Fin 2048 := ⟨o.val * 512 + k.val, by omega⟩

theorem rows_at (c : Fin 4) (X : Arr 2048 256) (a : Fin 512) (b : Fin 256) : rows c X (ix2 a b) = X (ix2 (pos4 c a) b) := by
  refine (Layout.block_apply ..).trans (congrArg X ?_)
  funext t; fin_cases t <;> rfl
theorem cols_at (c : Fin 4) (X : Arr 256 2048) (a : Fin 256) (b : Fin 512) : cols c X (ix2 a b) = X (ix2 a (pos4 c b)) := by
  refine (Layout.block_apply ..).trans (congrArg X ?_)
  funext t; fin_cases t <;> rfl

theorem sum_parts (f : Fin 2048 → EReal) : ∑ k : Fin 2048, f k = ∑ o : Fin 4, ∑ k : Fin 512, f (pos4 o k) := by
  rw [← Fintype.sum_prod_type (fun p : Fin 4 × Fin 512 => f (pos4 p.1 p.2))]
  refine (Fintype.sum_equiv (finProdFinEquiv (m := 4) (n := 512)) _ f fun p => congrArg f (Fin.ext ?_)).symm
  show p.1.val * 512 + p.2.val = p.2.val + 512 * p.1.val
  omega

/-- A layer of the whole, on a device's rows. -/
theorem layer (c : Fin 4) (X : Arr 2048 256) (W : Arr 256 2048) (U : Arr 2048 256) :
    (fun i => ∑ o : Fin 4, mlp (rows c X) (cols o W) (rows o U) i) = rows c (mlp X W U) := by
  funext i
  obtain ⟨a, b, rfl⟩ := exists_ix2 i
  refine Eq.trans ?_ (rows_at c (mlp X W U) a b).symm
  refine Eq.trans ?_ (sum_parts fun k => pos (mm X W) (ix2 (pos4 c a) k) * U (ix2 k b)).symm
  refine Finset.sum_congr rfl fun o _ => ?_
  unfold mlp mm
  refine Finset.sum_congr rfl fun k _ => ?_
  refine congrArg₂ (· * ·) (congrArg (max · 0) (Finset.sum_congr rfl fun d _ => ?_)) (rows_at o U k b)
  exact congrArg₂ (· * ·) (rows_at c X a d) (cols_at o W d k)

/-- The whole computation. -/
def whole (X : Arr 2048 256) (W0 : Arr 256 2048) (U0 : Arr 2048 256) (W1 : Arr 256 2048) (U1 : Arr 2048 256) (W2 : Arr 256 2048) (U2 : Arr 2048 256) :
    Arr 2048 256 := mlp (mlp (mlp X W0 U0) W1 U1) W2 U2

/-- A device's block of the result is its rows of the whole's. -/
theorem outAt_eq (m : (ℓ : Loc nD τ sig) → Buf (Elt Ideal) ℓ) (X : Arr 2048 256) (W0 : Arr 256 2048) (U0 : Arr 2048 256) (W1 : Arr 256 2048)
    (U1 : Arr 2048 256) (W2 : Arr 256 2048) (U2 : Arr 2048 256)
    (h : ∀ c : Dev nD, m ((c : Thread nD τ).loc main_arg0) = rows c X
      ∧ m ((c : Thread nD τ).loc main_arg1) = cols c W0 ∧ m ((c : Thread nD τ).loc main_arg2) = rows c U0
      ∧ m ((c : Thread nD τ).loc main_arg3) = cols c W1 ∧ m ((c : Thread nD τ).loc main_arg4) = rows c U1
      ∧ m ((c : Thread nD τ).loc main_arg5) = cols c W2 ∧ m ((c : Thread nD τ).loc main_arg6) = rows c U2) (c : Dev nD) :
    outAt m c = rows c (whole X W0 U0 W1 U1 W2 U2) := by
  have hx : xAt m c = rows c X := (h c).1
  have p0 (x : Arr 512 256) (o : Dev nD) : part m 0 x o = mlp x (cols o W0) (rows o U0) := by
    unfold part; rw [show winAt m o 0 = cols o W0 from (h o).2.1, show woutAt m o 0 = rows o U0 from (h o).2.2.1]
  have p1 (x : Arr 512 256) (o : Dev nD) : part m 1 x o = mlp x (cols o W1) (rows o U1) := by
    unfold part; rw [show winAt m o 1 = cols o W1 from (h o).2.2.2.1, show woutAt m o 1 = rows o U1 from (h o).2.2.2.2.1]
  have p2 (x : Arr 512 256) (o : Dev nD) : part m 2 x o = mlp x (cols o W2) (rows o U2) := by
    unfold part; rw [show winAt m o 2 = cols o W2 from (h o).2.2.2.2.2.1, show woutAt m o 2 = rows o U2 from (h o).2.2.2.2.2.2]
  unfold outAt
  rw [lay0_eq, lay1_eq, lay2_eq, hx]
  simp only [p0, p1, p2]
  rw [layer c X W0 U0, layer c (mlp X W0 U0) W1 U1, layer c (mlp (mlp X W0 U0) W1 U1) W2 U2]
  rfl

/-! ## The reference's term -/

section Ref
open Cert.ReferenceIdeal

theorem ref_first (A : FVec Ideal S2048x256 .bf16) (B : FVec Ideal S256x2048 .bf16) :
    Host.dotGeneral dot_S2048x256_S256x2048_S2048x2048_1_0_0_1_n_n none A B = (mm A B : Arr 2048 2048) := dot_mm A B
theorem ref_second (A : FVec Ideal S2048x2048 .bf16) (B : FVec Ideal S2048x256 .bf16) :
    Host.dotGeneral dot_S2048x2048_S2048x256_S2048x256_1_0_0_1_n_n none A B = (mm A B : Arr 2048 256) := dot_mm A B

/-- One layer as the reference writes it. -/
def refLayer (X : FVec Ideal S2048x256 .bf16) (W : FVec Ideal S256x2048 .bf16) (U : FVec Ideal S2048x256 .bf16) : FVec Ideal S2048x256 .bf16 :=
  truncf .bf16 (Host.dotGeneral dot_S2048x2048_S2048x256_S2048x256_1_0_0_1_n_n none
    (maximumf (truncf .bf16 (Host.dotGeneral dot_S2048x256_S256x2048_S2048x2048_1_0_0_1_n_n none X W) Cert.ReferenceIdeal.Gen.bitsLt_bf16_f32)
      (broadcastInDim S2048x2048 ![] Cert.ReferenceIdeal.Gen.bcast_S_S2048x2048 (constant (F := Ideal) Cert.ReferenceIdeal.S_ .bf16 0x0000#16))) U)
    Cert.ReferenceIdeal.Gen.bitsLt_bf16_f32

theorem refLayer_eq (X : FVec Ideal S2048x256 .bf16) (W : FVec Ideal S256x2048 .bf16) (U : FVec Ideal S2048x256 .bf16) :
    refLayer X W U = (mlp X W U : Arr 2048 256) := by
  unfold refLayer
  rw [pos_bf16, ref_first, ref_second]
  rfl

theorem ref_whole (X : FVec Ideal S2048x256 .bf16) (W0 : FVec Ideal S256x2048 .bf16) (U0 : FVec Ideal S2048x256 .bf16)
    (W1 : FVec Ideal S256x2048 .bf16) (U1 : FVec Ideal S2048x256 .bf16) (W2 : FVec Ideal S256x2048 .bf16) (U2 : FVec Ideal S2048x256 .bf16) :
    extf .f32 (refLayer (refLayer (refLayer X W0 U0) W1 U1) W2 U2) Cert.ReferenceIdeal.Gen.bitsLt_bf16_f32 = (whole X W0 U0 W1 U1 W2 U2 : Arr 2048 256) := by
  rw [refLayer_eq X, refLayer_eq, refLayer_eq]
  rfl

end Ref

end Cert.RingMlp
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel at bits: it ends, its arguments unchanged and every counter at zero. -/
theorem kernel_frame : quiescent_Kernel (hKernel := Cert.Kernel.Gen.facts) := fun m ρ _ =>
  (θ_run Cert.KernelIdeal.defs _ _).mono (fun _ h => ⟨fun c => (h.1 c).1, h.2⟩) (Cert.RingMlp.run_main (F := Bits) m ρ)

/-- The same at the extended reals. -/
theorem ideal_frame : quiescent_KernelIdeal (hKernelIdeal := Cert.KernelIdeal.Gen.facts) := fun m ρ _ =>
  (θ_run Cert.KernelIdeal.defs _ _).mono (fun _ h => ⟨fun c => (h.1 c).1, h.2⟩) (Cert.RingMlp.run_main (F := Ideal) m ρ)

/-- The reference, which has no counter. -/
theorem reference_frame : quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The result: each device's block is its rows of the reference's. -/
theorem value : algebraic_KernelIdeal_ReferenceIdeal (hKernelIdeal := Cert.KernelIdeal.Gen.facts) (hReferenceIdeal := Cert.ReferenceIdeal.Gen.facts) := by
  intro m ρ m' ρ' _ hagree
  refine ⟨Cert.RingMlp.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4))
    (m' (((0 : Dev Cert.ReferenceIdeal.nD).tc : Thread Cert.ReferenceIdeal.nD Cert.ReferenceIdeal.τ).loc Cert.ReferenceIdeal.main_arg5))
    (m' (((0 : Dev Cert.ReferenceIdeal.nD).tc : Thread Cert.ReferenceIdeal.nD Cert.ReferenceIdeal.τ).loc Cert.ReferenceIdeal.main_arg6)), ?_, ?_⟩
  · exact (θ_run Cert.KernelIdeal.defs _ _).mono
      (fun _ h c => ⟨(h.1 c).2.trans (Cert.RingMlp.outAt_eq m _ _ _ _ _ _ _ hagree c), (h.1 c).1⟩)
      (Cert.RingMlp.run_main (F := Ideal) m ρ)
  · exact (θ_run Cert.ReferenceIdeal.defs _ _).mono
      (fun _ h => ⟨(h 0).1.trans (Cert.RingMlp.ref_whole _ _ _ _ _ _ _), (h 0).2⟩) (Cert.ReferenceIdeal.Value.run (F := Ideal) m' ρ')

theorem claim : Cert.Claim := ⟨Cert.Kernel.Gen.facts, Cert.KernelIdeal.Gen.facts, Cert.ReferenceIdeal.Gen.facts,
  kernel_frame, ideal_frame, reference_frame, trivial, value⟩

end Cert.Proof

end
